-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_clear_rows [hKernelIdeal : Cert.KernelIdeal.Facts] [hReferenceIdeal : Cert.ReferenceIdeal.Facts] [hOn_clear_rows : Cert.On_clear_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![15000, 2]⟩ : Shape).Idx, (Cert.On_clear_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v5) i = v0 c i)
          ∧ (∀ i : (⟨2, ![15000, 2]⟩ : Shape).Idx, (Cert.On_clear_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v13) i = v1 c i)
          ∧ (∀ i : (⟨2, ![15000, 2]⟩ : Shape).Idx, (Cert.On_clear_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_v17) i = v2 c i)
          ∧ (∀ i : (⟨2, ![15000, 2]⟩ : Shape).Idx, (Cert.On_clear_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 i = 1#1 → r.2.mem ((c.tc : Thread Cert.KernelIdeal.nD Cert.KernelIdeal.τ).loc Cert.KernelIdeal.main_v25) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![15000, 2]⟩ : Shape).Idx, (Cert.On_clear_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_values) i = v0 c i)
          ∧ (∀ i : (⟨2, ![15000, 2]⟩ : Shape).Idx, (Cert.On_clear_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_indices) i = v1 c i)
          ∧ (∀ i : (⟨2, ![15000, 2]⟩ : Shape).Idx, (Cert.On_clear_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_values_1) i = v2 c i)
          ∧ (∀ i : (⟨2, ![15000, 2]⟩ : Shape).Idx, (Cert.On_clear_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 i = 1#1 → r.2.mem ((c.tc : Thread Cert.ReferenceIdeal.nD Cert.ReferenceIdeal.τ).loc Cert.ReferenceIdeal.main_indices_2) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_clear_rows : Cert.On_clear_rows.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_clear_rows (hKernelIdeal := hKernelIdeal) (hReferenceIdeal := hReferenceIdeal) (hOn_clear_rows := hOn_clear_rows)
-- ==== On_clear_rows.lean ====
abbrev S15000x200 : Shape := ⟨2, ![15000, 200]⟩
abbrev S_ : Shape := ⟨0, ![]⟩
abbrev S15000 : Shape := ⟨1, ![15000]⟩
abbrev S15000x1 : Shape := ⟨2, ![15000, 1]⟩
abbrev S200x15000 : Shape := ⟨2, ![200, 15000]⟩
abbrev S15000x15000 : Shape := ⟨2, ![15000, 15000]⟩
abbrev S15000x2 : Shape := ⟨2, ![15000, 2]⟩
abbrev S15000x4 : Shape := ⟨2, ![15000, 4]⟩

class Facts : Prop where
  reducesTo_S15000x200_S15000_d1 : S15000x200.ReducesTo [1] S15000
  h_S_ : 0 < S_.numel
  bcast_S15000_S15000x1_0 : S15000.BroadcastsInDim S15000x1 (![0] : Fin 1 → Fin S15000x1.rank)
  bcast_S_S15000x1 : S_.BroadcastsInDim S15000x1 (![] : Fin 0 → Fin S15000x1.rank)
  bcast_S15000x1_S15000x200_0_1 : S15000x1.BroadcastsInDim S15000x200 (![0, 1] : Fin 2 → Fin S15000x200.rank)
  transposes_S15000x200_S200x15000_1_0 : S15000x200.Transposes [1, 0] S200x15000
  bcast_S_S15000x2 : S_.BroadcastsInDim S15000x2 (![] : Fin 0 → Fin S15000x2.rank)
  sliceFits_S15000x15000_S15000x4 : S15000x15000.Slices (fun _ => 0) S15000x4
  slices_S15000x4_S15000x2_0_0 : S15000x4.Slices ![0, 0] S15000x2
  slices_S15000x4_S15000x2_0_2 : S15000x4.Slices ![0, 2] S15000x2
  slices_S15000x2_S15000x1_0_0 : S15000x2.Slices ![0, 0] S15000x1
  bcast_S15000x1_S15000x2_0_1 : S15000x1.BroadcastsInDim S15000x2 (![0, 1] : Fin 2 → Fin S15000x2.rank)
  transposes_S15000x15000_S15000x15000_1_0 : S15000x15000.Transposes [1, 0] S15000x15000
  dot_S15000x200_S200x15000_S15000x15000_1_0_0_1_n_n_wf : DotDims.WF S15000x200 S200x15000 S15000x15000 [1] [0] [0] [1] [] []

variable [Facts]

def dot_S15000x200_S200x15000_S15000x15000_1_0_0_1_n_n : DotDims S15000x200 S200x15000 S15000x15000 where
  lhsContracting := [1]
  rhsContracting := [0]
  lhsNonContracting := [0]
  rhsNonContracting := [1]
  lhsBatch := []
  rhsBatch := []
  wf := dot_S15000x200_S200x15000_S15000x15000_1_0_0_1_n_n_wf
def fn_part1 {F : FTy → Type} [FloatOps F] (main_v17 : FVec F S15000x15000 .f32) (main_v18 : IVec S15000x2 1) : IVec S15000x2 1 × IVec S15000x2 1 × IVec S15000x2 1 × IVec S15000x2 1 :=
  let main_values : FVec F S15000x4 .f32 := (fun x => (Host.topK S15000x4 1 (FloatOps.cmpfTotal .gt) x sliceFits_S15000x15000_S15000x4).1) main_v17
  let main_indices : IVec S15000x4 32 := (fun x => (Host.topK S15000x4 1 (FloatOps.cmpfTotal .gt) x sliceFits_S15000x15000_S15000x4).2) main_v17
  let main_v19 : FVec F S15000x2 .f32 := (extractStridedSlice S15000x2 ![0, 0] · slices_S15000x4_S15000x2_0_0) main_values
  let main_v20 : FVec F S15000x2 .f32 := (extractStridedSlice S15000x2 ![0, 2] · slices_S15000x4_S15000x2_0_2) main_values
  let main_v21 : IVec S15000x2 1 := cmpf .oeq main_v19 main_v20
  let main_v22 : IVec S15000x1 1 := (extractStridedSlice S15000x1 ![0, 0] · slices_S15000x2_S15000x1_0_0) main_v21
  let main_v23 : IVec S15000x2 1 := broadcastInDim S15000x2 ![0, 1] bcast_S15000x1_S15000x2_0_1 main_v22
  let main_v24 : IVec S15000x2 1 := ori main_v21 main_v23
  let main_v25 : IVec S15000x2 1 := noti main_v24
  let main_v26 : FVec F S15000x15000 .f32 := (transpose S15000x15000 [1, 0] · transposes_S15000x15000_S15000x15000_1_0) main_v17
  let main_values_3 : FVec F S15000x4 .f32 := (fun x => (Host.topK S15000x4 1 (FloatOps.cmpfTotal .gt) x sliceFits_S15000x15000_S15000x4).1) main_v26
  let main_indices_4 : IVec S15000x4 32 := (fun x => (Host.topK S15000x4 1 (FloatOps.cmpfTotal .gt) x sliceFits_S15000x15000_S15000x4).2) main_v26
  let main_v27 : FVec F S15000x2 .f32 := (extractStridedSlice S15000x2 ![0, 0] · slices_S15000x4_S15000x2_0_0) main_values_3
  let main_v28 : FVec F S15000x2 .f32 := (extractStridedSlice S15000x2 ![0, 2] · slices_S15000x4_S15000x2_0_2) main_values_3
  let main_v29 : IVec S15000x2 1 := cmpf .oeq main_v27 main_v28
  let main_v30 : IVec S15000x1 1 := (extractStridedSlice S15000x1 ![0, 0] · slices_S15000x2_S15000x1_0_0) main_v29
  let main_v31 : IVec S15000x2 1 := broadcastInDim S15000x2 ![0, 1] bcast_S15000x1_S15000x2_0_1 main_v30
  let main_v32 : IVec S15000x2 1 := ori main_v29 main_v31
  let main_v33 : IVec S15000x2 1 := noti main_v32
  (main_v18, main_v25, main_v18, main_v33)

def fn {F : FTy → Type} [FloatOps F] (main_arg0 : FVec F S15000x200 .f32) (main_arg1 : FVec F S15000x200 .f32) : IVec S15000x2 1 × IVec S15000x2 1 × IVec S15000x2 1 × IVec S15000x2 1 :=
  let main_v0 : FVec F S15000x200 .f32 := mulf main_arg0 main_arg0
  let main_cst : FVec F S_ .f32 := constant S_ .f32 0x00000000#32
  let main_v1 : FVec F S15000 .f32 := (fun x v => Host.reduceAdd x v reducesTo_S15000x200_S15000_d1 h_S_) main_v0 main_cst
  let main_v2 : FVec F S15000x1 .f32 := broadcastInDim S15000x1 ![0] bcast_S15000_S15000x1_0 main_v1
  let main_v3 : FVec F S15000x1 .f32 := Host.sqrt main_v2
  let main_cst_0 : FVec F S_ .f32 := constant S_ .f32 0x322BCC77#32
  let main_v4 : FVec F S15000x1 .f32 := broadcastInDim S15000x1 ![] bcast_S_S15000x1 main_cst_0
  let main_v5 : FVec F S15000x1 .f32 := maximumf main_v3 main_v4
  let main_v6 : FVec F S15000x200 .f32 := broadcastInDim S15000x200 ![0, 1] bcast_S15000x1_S15000x200_0_1 main_v5
  let main_v7 : FVec F S15000x200 .f32 := Host.divf main_arg0 main_v6
  let main_v8 : FVec F S15000x200 .f32 := mulf main_arg1 main_arg1
  let main_cst_1 : FVec F S_ .f32 := constant S_ .f32 0x00000000#32
  let main_v9 : FVec F S15000 .f32 := (fun x v => Host.reduceAdd x v reducesTo_S15000x200_S15000_d1 h_S_) main_v8 main_cst_1
  let main_v10 : FVec F S15000x1 .f32 := broadcastInDim S15000x1 ![0] bcast_S15000_S15000x1_0 main_v9
  let main_v11 : FVec F S15000x1 .f32 := Host.sqrt main_v10
  let main_cst_2 : FVec F S_ .f32 := constant S_ .f32 0x322BCC77#32
  let main_v12 : FVec F S15000x1 .f32 := broadcastInDim S15000x1 ![] bcast_S_S15000x1 main_cst_2
  let main_v13 : FVec F S15000x1 .f32 := maximumf main_v11 main_v12
  let main_v14 : FVec F S15000x200 .f32 := broadcastInDim S15000x200 ![0, 1] bcast_S15000x1_S15000x200_0_1 main_v13
  let main_v15 : FVec F S15000x200 .f32 := Host.divf main_arg1 main_v14
  let main_v16 : FVec F S200x15000 .f32 := (transpose S200x15000 [1, 0] · transposes_S15000x200_S200x15000_1_0) main_v15
  let main_v17 : FVec F S15000x15000 .f32 := (fun l r => Host.dotGeneral dot_S15000x200_S200x15000_S15000x15000_1_0_0_1_n_n none l r) main_v7 main_v16
  let main_c : IVec S_ 1 := constantI S_ 1 1#1
  let main_v18 : IVec S15000x2 1 := broadcastInDim S15000x2 ![] bcast_S_S15000x2 main_c
  fn_part1 (F := F) main_v17 main_v18
-- ==== Kernel.lean ====
abbrev S15000x200 : Shape := ⟨2, ![15000, 200]⟩
abbrev S15360x256 : Shape := ⟨2, ![15360, 256]⟩
abbrev S3000x200 : Shape := ⟨2, ![3000, 200]⟩
abbrev S3072x256 : Shape := ⟨2, ![3072, 256]⟩
abbrev S3072x1 : Shape := ⟨2, ![3072, 1]⟩
abbrev S3000 : Shape := ⟨1, ![3000]⟩
abbrev S3000x1 : Shape := ⟨2, ![3000, 1]⟩
abbrev S2x15360 : Shape := ⟨2, ![2, 15360]⟩
abbrev S1024x256 : Shape := ⟨2, ![1024, 256]⟩
abbrev S1024x1024 : Shape := ⟨2, ![1024, 1024]⟩
abbrev S1x1024 : Shape := ⟨2, ![1, 1024]⟩
abbrev S7x1024 : Shape := ⟨2, ![7, 1024]⟩
abbrev S1024 : Shape := ⟨1, ![1024]⟩
abbrev S1024x1 : Shape := ⟨2, ![1024, 1]⟩
abbrev S15360x2 : Shape := ⟨2, ![15360, 2]⟩
abbrev S5x3072x2 : Shape := ⟨3, ![5, 3072, 2]⟩
abbrev S5x3000x2 : Shape := ⟨3, ![5, 3000, 2]⟩
abbrev S15000x2 : Shape := ⟨2, ![15000, 2]⟩
abbrev S_ : Shape := ⟨0, ![]⟩

abbrev nBuf : Space → Nat
  | .hbm => 68
  | .vmem => 16
  | .smem => 0
  | _ => 0

abbrev bufTy : (tb : Table) → Fin (tcTables nBuf tb) → BufTy
  | .hbm, ⟨0, _⟩ => ⟨S15000x200, .f32⟩
  | .hbm, ⟨1, _⟩ => ⟨S15000x200, .f32⟩
  | .hbm, ⟨2, _⟩ => ⟨S15360x256, .f32⟩
  | .hbm, ⟨3, _⟩ => ⟨S15360x256, .f32⟩
  | .hbm, ⟨4, _⟩ => ⟨S2x15360, .f32⟩
  | .hbm, ⟨5, _⟩ => ⟨S2x15360, .i32⟩
  | .hbm, ⟨6, _⟩ => ⟨S2x15360, .f32⟩
  | .hbm, ⟨7, _⟩ => ⟨S2x15360, .i32⟩
  | .hbm, ⟨8, _⟩ => ⟨S15360x2, .f32⟩
  | .hbm, ⟨9, _⟩ => ⟨S5x3072x2, .f32⟩
  | .hbm, ⟨10, _⟩ => ⟨S5x3000x2, .f32⟩
  | .hbm, ⟨11, _⟩ => ⟨S15000x2, .f32⟩
  | .hbm, ⟨12, _⟩ => ⟨S15360x2, .i32⟩
  | .hbm, ⟨13, _⟩ => ⟨S5x3072x2, .i32⟩
  | .hbm, ⟨14, _⟩ => ⟨S5x3000x2, .i32⟩
  | .hbm, ⟨15, _⟩ => ⟨S15000x2, .i32⟩
  | .hbm, ⟨16, _⟩ => ⟨S_, .i32⟩
  | .hbm, ⟨17, _⟩ => ⟨S_, .i32⟩
  | .hbm, ⟨18, _⟩ => ⟨S15000x2, .i32⟩
  | .hbm, ⟨19, _⟩ => ⟨S15000x2, .i32⟩
  | .hbm, ⟨20, _⟩ => ⟨S15000x2, .i32⟩
  | .hbm, ⟨21, _⟩ => ⟨S_, .i32⟩
  | .hbm, ⟨22, _⟩ => ⟨S15000x2, .i32⟩
  | .hbm, ⟨23, _⟩ => ⟨S15000x2, .i1⟩
  | .hbm, ⟨24, _⟩ => ⟨S15000x2, .i32⟩
  | .hbm, ⟨25, _⟩ => ⟨S15000x2, .i32⟩
  | .hbm, ⟨26, _⟩ => ⟨S_, .i32⟩
  | .hbm, ⟨27, _⟩ => ⟨S15000x2, .i32⟩
  | .hbm, ⟨28, _⟩ => ⟨S15000x2, .i1⟩
  | .hbm, ⟨29, _⟩ => ⟨S15000x2, .i1⟩
  | .hbm, ⟨30, _⟩ => ⟨S_, .i32⟩
  | .hbm, ⟨31, _⟩ => ⟨S15000x2, .i32⟩
  | .hbm, ⟨32, _⟩ => ⟨S15000x2, .i32⟩
  | .hbm, ⟨33, _⟩ => ⟨S15000x2, .i32⟩
  | .hbm, ⟨34, _⟩ => ⟨S_, .i32⟩
  | .hbm, ⟨35, _⟩ => ⟨S15000x2, .i32⟩
  | .hbm, ⟨36, _⟩ => ⟨S15000x2, .i32⟩
  | .hbm, ⟨37, _⟩ => ⟨S15000x2, .i32⟩
  | .hbm, ⟨38, _⟩ => ⟨S15360x2, .f32⟩
  | .hbm, ⟨39, _⟩ => ⟨S5x3072x2, .f32⟩
  | .hbm, ⟨40, _⟩ => ⟨S5x3000x2, .f32⟩
  | .hbm, ⟨41, _⟩ => ⟨S15000x2, .f32⟩
  | .hbm, ⟨42, _⟩ => ⟨S15360x2, .i32⟩
  | .hbm, ⟨43, _⟩ => ⟨S5x3072x2, .i32⟩
  | .hbm, ⟨44, _⟩ => ⟨S5x3000x2, .i32⟩
  | .hbm, ⟨45, _⟩ => ⟨S15000x2, .i32⟩
  | .hbm, ⟨46, _⟩ => ⟨S_, .i32⟩
  | .hbm, ⟨47, _⟩ => ⟨S_, .i32⟩
  | .hbm, ⟨48, _⟩ => ⟨S15000x2, .i32⟩
  | .hbm, ⟨49, _⟩ => ⟨S15000x2, .i32⟩
  | .hbm, ⟨50, _⟩ => ⟨S15000x2, .i32⟩
  | .hbm, ⟨51, _⟩ => ⟨S_, .i32⟩
  | .hbm, ⟨52, _⟩ => ⟨S15000x2, .i32⟩
  | .hbm, ⟨53, _⟩ => ⟨S15000x2, .i1⟩
  | .hbm, ⟨54, _⟩ => ⟨S15000x2, .i32⟩
  | .hbm, ⟨55, _⟩ => ⟨S15000x2, .i32⟩
  | .hbm, ⟨56, _⟩ => ⟨S_, .i32⟩
  | .hbm, ⟨57, _⟩ => ⟨S15000x2, .i32⟩
  | .hbm, ⟨58, _⟩ => ⟨S15000x2, .i1⟩
  | .hbm, ⟨59, _⟩ => ⟨S15000x2, .i1⟩
  | .hbm, ⟨60, _⟩ => ⟨S_, .i32⟩
  | .hbm, ⟨61, _⟩ => ⟨S15000x2, .i32⟩
  | .hbm, ⟨62, _⟩ => ⟨S15000x2, .i32⟩
  | .hbm, ⟨63, _⟩ => ⟨S15000x2, .i32⟩
  | .hbm, ⟨64, _⟩ => ⟨S_, .i32⟩
  | .hbm, ⟨65, _⟩ => ⟨S15000x2, .i32⟩
  | .hbm, ⟨66, _⟩ => ⟨S15000x2, .i32⟩
  | .hbm, ⟨67, _⟩ => ⟨S15000x2, .i32⟩
  | .local _ .vmem, ⟨0, _⟩ => ⟨S3000x200, .f32⟩
  | .local _ .vmem, ⟨1, _⟩ => ⟨S3000x200, .f32⟩
  | .local _ .vmem, ⟨2, _⟩ => ⟨S3000x200, .f32⟩
  | .local _ .vmem, ⟨3, _⟩ => ⟨S3000x200, .f32⟩
  | .local _ .vmem, ⟨4, _⟩ => ⟨S3072x256, .f32⟩
  | .local _ .vmem, ⟨5, _⟩ => ⟨S3072x256, .f32⟩
  | .local _ .vmem, ⟨6, _⟩ => ⟨S3072x256, .f32⟩
  | .local _ .vmem, ⟨7, _⟩ => ⟨S3072x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S2x15360, .f32⟩
  | .local _ .vmem, ⟨13, _⟩ => ⟨S2x15360, .i32⟩
  | .local _ .vmem, ⟨14, _⟩ => ⟨S2x15360, .f32⟩
  | .local _ .vmem, ⟨15, _⟩ => ⟨S2x15360, .i32⟩
  | _, _ => ⟨S15000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v10 : Ref sig .tc := ⟨.hbm, 33, rfl⟩
abbrev main_c_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_1 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v22 : Ref sig .tc := ⟨.hbm, 63, rfl⟩
abbrev main_c_2 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![15, 15], ![false, false]⟩

def k1_off1 (i : grid1.Coords) : Fin 2 → Nat :=
  let c0_32 : Index := 0#32
  let arg0 : BitVec 32 := BitVec.ofNat 32 (i 0).val
  let c1024_i32_31 : BitVec 32 := 1024#32
  let v123 : BitVec 32 := Scalar.muli arg0 c1024_i32_31
  let v124 : Index := Scalar.indexCast v123
  ![0, v124.toNat]
def k1_off2 (i : grid1.Coords) : Fin 2 → Nat :=
  let c1 : Index := 1#32
  let arg0 : BitVec 32 := BitVec.ofNat 32 (i 0).val
  let c1024_i32_31 : BitVec 32 := 1024#32
  let v123 : BitVec 32 := Scalar.muli arg0 c1024_i32_31
  let v130 : Index := Scalar.indexCast v123
  ![1, v130.toNat]
def k1_off3 (i : grid1.Coords) : Fin 2 → Nat :=
  let c0_61 : Index := 0#32
  let arg1 : BitVec 32 := BitVec.ofNat 32 (i 1).val
  let c1024_i32_60 : BitVec 32 := 1024#32
  let v242 : BitVec 32 := Scalar.muli arg1 c1024_i32_60
  let v243 : Index := Scalar.indexCast v242
  ![0, v243.toNat]
def k1_off4 (i : grid1.Coords) : Fin 2 → Nat :=
  let c1_63 : Index := 1#32
  let arg1 : BitVec 32 := BitVec.ofNat 32 (i 1).val
  let c1024_i32_60 : BitVec 32 := 1024#32
  let v242 : BitVec 32 := Scalar.muli arg1 c1024_i32_60
  let v249 : Index := Scalar.indexCast v242
  ![1, v249.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S2x15360 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S2x15360 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S2x15360 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2x15360 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]
-- ==== ReferenceIdeal.lean ====
abbrev S15000x200 : Shape := ⟨2, ![15000, 200]⟩
abbrev S_ : Shape := ⟨0, ![]⟩
abbrev S15000 : Shape := ⟨1, ![15000]⟩
abbrev S15000x1 : Shape := ⟨2, ![15000, 1]⟩
abbrev S200x15000 : Shape := ⟨2, ![200, 15000]⟩
abbrev S15000x15000 : Shape := ⟨2, ![15000, 15000]⟩
abbrev S15000x2 : Shape := ⟨2, ![15000, 2]⟩

abbrev nBuf : Space → Nat
  | .hbm => 29
  | .vmem => 0
  | .smem => 0
  | _ => 0

abbrev bufTy : (tb : Table) → Fin (tcTables nBuf tb) → BufTy
  | .hbm, ⟨0, _⟩ => ⟨S15000x200, .f32⟩
  | .hbm, ⟨1, _⟩ => ⟨S15000x200, .f32⟩
  | .hbm, ⟨2, _⟩ => ⟨S15000x200, .f32⟩
  | .hbm, ⟨3, _⟩ => ⟨S_, .f32⟩
  | .hbm, ⟨4, _⟩ => ⟨S15000, .f32⟩
  | .hbm, ⟨5, _⟩ => ⟨S15000x1, .f32⟩
  | .hbm, ⟨6, _⟩ => ⟨S15000x1, .f32⟩
  | .hbm, ⟨7, _⟩ => ⟨S_, .f32⟩
  | .hbm, ⟨8, _⟩ => ⟨S15000x1, .f32⟩
  | .hbm, ⟨9, _⟩ => ⟨S15000x1, .f32⟩
  | .hbm, ⟨10, _⟩ => ⟨S15000x200, .f32⟩
  | .hbm, ⟨11, _⟩ => ⟨S15000x200, .f32⟩
  | .hbm, ⟨12, _⟩ => ⟨S15000x200, .f32⟩
  | .hbm, ⟨13, _⟩ => ⟨S_, .f32⟩
  | .hbm, ⟨14, _⟩ => ⟨S15000, .f32⟩
  | .hbm, ⟨15, _⟩ => ⟨S15000x1, .f32⟩
  | .hbm, ⟨16, _⟩ => ⟨S15000x1, .f32⟩
  | .hbm, ⟨17, _⟩ => ⟨S_, .f32⟩
  | .hbm, ⟨18, _⟩ => ⟨S15000x1, .f32⟩
  | .hbm, ⟨19, _⟩ => ⟨S15000x1, .f32⟩
  | .hbm, ⟨20, _⟩ => ⟨S15000x200, .f32⟩
  | .hbm, ⟨21, _⟩ => ⟨S15000x200, .f32⟩
  | .hbm, ⟨22, _⟩ => ⟨S200x15000, .f32⟩
  | .hbm, ⟨23, _⟩ => ⟨S15000x15000, .f32⟩
  | .hbm, ⟨24, _⟩ => ⟨S15000x2, .f32⟩
  | .hbm, ⟨25, _⟩ => ⟨S15000x2, .i32⟩
  | .hbm, ⟨26, _⟩ => ⟨S15000x15000, .f32⟩
  | .hbm, ⟨27, _⟩ => ⟨S15000x2, .f32⟩
  | .hbm, ⟨28, _⟩ => ⟨S15000x2, .i32⟩
  | _, _ => ⟨S15000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_values : Ref sig .tc := ⟨.hbm, 24, rfl⟩
abbrev main_indices : Ref sig .tc := ⟨.hbm, 25, rfl⟩
abbrev main_v12 : Ref sig .tc := ⟨.hbm, 26, rfl⟩
abbrev main_values_1 : Ref sig .tc := ⟨.hbm, 27, rfl⟩
abbrev main_indices_2 : Ref sig .tc := ⟨.hbm, 28, rfl⟩

abbrev nD : Nat := 1
abbrev τ : Topo := Topo.v7x

variable {F : FTy → Type} [FloatOps F]
-- ==== Proof.IdealFrame.lean ====
/- The launch of the idealized program: what each of its two regions leaves in its outputs point by point, the buffer contents at
   every boundary, the run, and the frame. The preparing region's outputs are covered by the zero fill that opens its
   body, a store of the whole block. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev VO0_2 : View sig .tc .vmem S3072x256 .f32 := (Memref.whole cc0_stg2_0 : Memref sig .tc .vmem S3072x256 .f32).view

abbrev VO0_3 : View sig .tc .vmem S3072x256 .f32 := (Memref.whole cc0_stg3_0 : Memref sig .tc .vmem S3072x256 .f32).view

abbrev ms0_0 (t : Fin cfg0.N) : Memref sig .tc .vmem S3000x200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3000x200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3072x256 .f32 := win0_3.stage (cfg0.slots t 3)
abbrev hs0_3 (t : Fin cfg0.N) : (ms0_3 t).IsWhole := hstage0_3 ((cfg0.slots t 3).cast nbuf0_3)

set_option maxHeartbeats 1000000 in

noncomputable def kernelRun0_A (c : Dev nD) (i : grid0.Coords) (arg1 : Memref sig .tc .vmem S3000x200 .f32) (harg1 : arg1.IsWhole) (arg2 : Memref sig .tc .vmem S3000x200 .f32) (harg2 : arg2.IsWhole) (arg3 : Memref sig .tc .vmem S3072x256 .f32) (harg3 : arg3.IsWhole) (arg4 : Memref sig .tc .vmem S3072x256 .f32) (harg4 : arg4.IsWhole)
    (x0 : Vec F S3000x200 .f32) (x1 : Vec F S3000x200 .f32) :
    Σ' (L2 : List (View.Piece (Elt F) S3072x256 .f32)), { L3 : List (View.Piece (Elt F) S3072x256 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__prep_kernel i arg1 harg1 arg2 harg2 arg3 harg3 arg4 harg4) K } := by
  refine ⟨?_, ?_, fun E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

theorem cover0_A_2 (c : Dev nD) (i : grid0.Coords) (arg1 : Memref sig .tc .vmem S3000x200 .f32) (harg1 : arg1.IsWhole) (arg2 : Memref sig .tc .vmem S3000x200 .f32) (harg2 : arg2.IsWhole) (arg3 : Memref sig .tc .vmem S3072x256 .f32) (harg3 : arg3.IsWhole) (arg4 : Memref sig .tc .vmem S3072x256 .f32) (harg4 : arg4.IsWhole)
    (x0 : Vec F S3000x200 .f32) (x1 : Vec F S3000x200 .f32) (y : S3072x256.Idx) :
    ∃ pc ∈ (kernelRun0_A c i arg1 harg1 arg2 harg2 arg3 harg3 arg4 harg4 x0 x1).1, y ∈ pc.1.set :=
  View.cover_of_wholeMem (kernelRun0_A c i arg1 harg1 arg2 harg2 arg3 harg3 arg4 harg4 x0 x1).1 (by sl_whole_mem) y

def out0_A_2 (c : Dev nD) (i : grid0.Coords) (arg1 : Memref sig .tc .vmem S3000x200 .f32) (harg1 : arg1.IsWhole) (arg2 : Memref sig .tc .vmem S3000x200 .f32) (harg2 : arg2.IsWhole) (arg3 : Memref sig .tc .vmem S3072x256 .f32) (harg3 : arg3.IsWhole) (arg4 : Memref sig .tc .vmem S3072x256 .f32) (harg4 : arg4.IsWhole)
    (x0 : Vec F S3000x200 .f32) (x1 : Vec F S3000x200 .f32) : Vec F S3072x256 .f32 :=
  VO0_2.read (Elt F) (VO0_2.writes (Elt F) VO0_2.junk (kernelRun0_A c i arg1 harg1 arg2 harg2 arg3 harg3 arg4 harg4 x0 x1).1)

theorem cover0_A_3 (c : Dev nD) (i : grid0.Coords) (arg1 : Memref sig .tc .vmem S3000x200 .f32) (harg1 : arg1.IsWhole) (arg2 : Memref sig .tc .vmem S3000x200 .f32) (harg2 : arg2.IsWhole) (arg3 : Memref sig .tc .vmem S3072x256 .f32) (harg3 : arg3.IsWhole) (arg4 : Memref sig .tc .vmem S3072x256 .f32) (harg4 : arg4.IsWhole)
    (x0 : Vec F S3000x200 .f32) (x1 : Vec F S3000x200 .f32) (y : S3072x256.Idx) :
    ∃ pc ∈ (kernelRun0_A c i arg1 harg1 arg2 harg2 arg3 harg3 arg4 harg4 x0 x1).2.1, y ∈ pc.1.set :=
  View.cover_of_wholeMem (kernelRun0_A c i arg1 harg1 arg2 harg2 arg3 harg3 arg4 harg4 x0 x1).2.1 (by sl_whole_mem) y

def out0_A_3 (c : Dev nD) (i : grid0.Coords) (arg1 : Memref sig .tc .vmem S3000x200 .f32) (harg1 : arg1.IsWhole) (arg2 : Memref sig .tc .vmem S3000x200 .f32) (harg2 : arg2.IsWhole) (arg3 : Memref sig .tc .vmem S3072x256 .f32) (harg3 : arg3.IsWhole) (arg4 : Memref sig .tc .vmem S3072x256 .f32) (harg4 : arg4.IsWhole)
    (x0 : Vec F S3000x200 .f32) (x1 : Vec F S3000x200 .f32) : Vec F S3072x256 .f32 :=
  VO0_3.read (Elt F) (VO0_3.writes (Elt F) VO0_3.junk (kernelRun0_A c i arg1 harg1 arg2 harg2 arg3 harg3 arg4 harg4 x0 x1).2.1)

def outsAt0 (c : Dev nD) (t : Fin cfg0.N) : Vec F S3072x256 .f32 × Vec F S3072x256 .f32 :=
  (out0_A_2 c (grid0.coords t) (ms0_0 t) (hs0_0 t) (ms0_1 t) (hs0_1 t) (ms0_2 t) (hs0_2 t) (ms0_3 t) (hs0_3 t) (iblk0 V c 0 t) (iblk0 V c 1 t), out0_A_3 c (grid0.coords t) (ms0_0 t) (hs0_0 t) (ms0_1 t) (hs0_1 t) (ms0_2 t) (hs0_2 t) (ms0_3 t) (hs0_3 t) (iblk0 V c 0 t) (iblk0 V c 1 t))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  unfold outsAt0
  unfold out0_A_2 out0_A_3; (try dsimp only)
  iintro ⟨HΦ, Ho, ⟨%d0, H0⟩, ⟨%d1, H1⟩, ⟨%d2, H2⟩, ⟨%d3, H3⟩⟩
  iapply ((kernelRun0_A c (grid0.coords t) _ _ _ _ _ _ _ _ (iblk0 V c 0 t) (iblk0 V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _)
  unfold owns; iexists _; isplitr
  swap; · iexact H3
  ipureintro; exact View.read_writes_of_cover _ _ _ _ _ (cover0_A_3 c _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem hcond1_0 : ∀ t : Fin cfg1.N, cond1_0 (grid1.coords t) ↔ t.val % 225 = 0 :=
  (fun t => by
    have ht : t.val < 225 := Nat.lt_of_lt_of_eq t.isLt N_1
    have e0 : (grid1.coords t 0).val = t.val / 15 % 15 := Pipeline.Grid.coords_val t 0 (by decide) rfl
    have e1 : (grid1.coords t 1).val = t.val / 1 % 15 := Pipeline.Grid.coords_val t 1 (by decide) rfl
    simp only [cond1_0, e0, e1]
    word_cmp
   : ∀ t : Fin grid1.N, cond1_0 (grid1.coords t) ↔ t.val % 225 = 0)

abbrev VO1_2 : View sig .tc .vmem S2x15360 .f32 := (Memref.whole cc1_stg2_0 : Memref sig .tc .vmem S2x15360 .f32).view

abbrev VO1_3 : View sig .tc .vmem S2x15360 .i32 := (Memref.whole cc1_stg3_0 : Memref sig .tc .vmem S2x15360 .i32).view

abbrev VO1_4 : View sig .tc .vmem S2x15360 .f32 := (Memref.whole cc1_stg4_0 : Memref sig .tc .vmem S2x15360 .f32).view

abbrev VO1_5 : View sig .tc .vmem S2x15360 .i32 := (Memref.whole cc1_stg5_0 : Memref sig .tc .vmem S2x15360 .i32).view

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x15360 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x15360 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x15360 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x15360 .i32 := win1_5.stage (cfg1.slots t 5)
abbrev hs1_5 (t : Fin cfg1.N) : (ms1_5 t).IsWhole := hstage1_5 ((cfg1.slots t 5).cast nbuf1_5)

set_option maxHeartbeats 1000000 in

noncomputable def kernelRun1_A (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : cond1_0 i)
    (x0 : Vec F S1024x256 .f32) (x1 : Vec F S1024x256 .f32) :
    Σ' (L2 : List (View.Piece (Elt F) S2x15360 .f32)), Σ' (L3 : List (View.Piece (Elt F) S2x15360 .i32)), Σ' (L4 : List (View.Piece (Elt F) S2x15360 .f32)), { L5 : List (View.Piece (Elt F) S2x15360 .i32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc1__topk_kernel i arg2 harg2 arg3 harg3 arg4 harg4 arg5 harg5 arg6 harg6 arg7 harg7) K } := by
  refine ⟨?_, ?_, ?_, ?_, fun E K => ?run⟩
  case run =>
    simp only [cc1__topk_kernel_eq_skeleton]; unfold cc1__topk_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

theorem cover1_A_2 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : cond1_0 i)
    (x0 : Vec F S1024x256 .f32) (x1 : Vec F S1024x256 .f32) (y : S2x15360.Idx) :
    ∃ pc ∈ (kernelRun1_A c i arg2 harg2 arg3 harg3 arg4 harg4 arg5 harg5 arg6 harg6 arg7 harg7 hc0 x0 x1).1, y ∈ pc.1.set :=
  View.cover_of_wholeMem (kernelRun1_A c i arg2 harg2 arg3 harg3 arg4 harg4 arg5 harg5 arg6 harg6 arg7 harg7 hc0 x0 x1).1 (by sl_whole_mem) y

def out1_A_2 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : cond1_0 i)
    (x0 : Vec F S1024x256 .f32) (x1 : Vec F S1024x256 .f32) : Vec F S2x15360 .f32 :=
  VO1_2.read (Elt F) (VO1_2.writes (Elt F) VO1_2.junk (kernelRun1_A c i arg2 harg2 arg3 harg3 arg4 harg4 arg5 harg5 arg6 harg6 arg7 harg7 hc0 x0 x1).1)

theorem cover1_A_3 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : cond1_0 i)
    (x0 : Vec F S1024x256 .f32) (x1 : Vec F S1024x256 .f32) (y : S2x15360.Idx) :
    ∃ pc ∈ (kernelRun1_A c i arg2 harg2 arg3 harg3 arg4 harg4 arg5 harg5 arg6 harg6 arg7 harg7 hc0 x0 x1).2.1, y ∈ pc.1.set :=
  View.cover_of_wholeMem (kernelRun1_A c i arg2 harg2 arg3 harg3 arg4 harg4 arg5 harg5 arg6 harg6 arg7 harg7 hc0 x0 x1).2.1 (by sl_whole_mem) y

def out1_A_3 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : cond1_0 i)
    (x0 : Vec F S1024x256 .f32) (x1 : Vec F S1024x256 .f32) : Vec F S2x15360 .i32 :=
  VO1_3.read (Elt F) (VO1_3.writes (Elt F) VO1_3.junk (kernelRun1_A c i arg2 harg2 arg3 harg3 arg4 harg4 arg5 harg5 arg6 harg6 arg7 harg7 hc0 x0 x1).2.1)

theorem cover1_A_4 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : cond1_0 i)
    (x0 : Vec F S1024x256 .f32) (x1 : Vec F S1024x256 .f32) (y : S2x15360.Idx) :
    ∃ pc ∈ (kernelRun1_A c i arg2 harg2 arg3 harg3 arg4 harg4 arg5 harg5 arg6 harg6 arg7 harg7 hc0 x0 x1).2.2.1, y ∈ pc.1.set :=
  View.cover_of_wholeMem (kernelRun1_A c i arg2 harg2 arg3 harg3 arg4 harg4 arg5 harg5 arg6 harg6 arg7 harg7 hc0 x0 x1).2.2.1 (by sl_whole_mem) y

def out1_A_4 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : cond1_0 i)
    (x0 : Vec F S1024x256 .f32) (x1 : Vec F S1024x256 .f32) : Vec F S2x15360 .f32 :=
  VO1_4.read (Elt F) (VO1_4.writes (Elt F) VO1_4.junk (kernelRun1_A c i arg2 harg2 arg3 harg3 arg4 harg4 arg5 harg5 arg6 harg6 arg7 harg7 hc0 x0 x1).2.2.1)

theorem cover1_A_5 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : cond1_0 i)
    (x0 : Vec F S1024x256 .f32) (x1 : Vec F S1024x256 .f32) (y : S2x15360.Idx) :
    ∃ pc ∈ (kernelRun1_A c i arg2 harg2 arg3 harg3 arg4 harg4 arg5 harg5 arg6 harg6 arg7 harg7 hc0 x0 x1).2.2.2.1, y ∈ pc.1.set :=
  View.cover_of_wholeMem (kernelRun1_A c i arg2 harg2 arg3 harg3 arg4 harg4 arg5 harg5 arg6 harg6 arg7 harg7 hc0 x0 x1).2.2.2.1 (by sl_whole_mem) y

def out1_A_5 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : cond1_0 i)
    (x0 : Vec F S1024x256 .f32) (x1 : Vec F S1024x256 .f32) : Vec F S2x15360 .i32 :=
  VO1_5.read (Elt F) (VO1_5.writes (Elt F) VO1_5.junk (kernelRun1_A c i arg2 harg2 arg3 harg3 arg4 harg4 arg5 harg5 arg6 harg6 arg7 harg7 hc0 x0 x1).2.2.2.1)

set_option maxHeartbeats 1000000 in

noncomputable def kernelRun1_B (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : ¬cond1_0 i)
    (x0 : Vec F S1024x256 .f32) (x1 : Vec F S1024x256 .f32) (xo2 : Vec F S2x15360 .f32) (xo3 : Vec F S2x15360 .i32) (xo4 : Vec F S2x15360 .f32) (xo5 : Vec F S2x15360 .i32) :
    Σ' (L2 : List (View.Piece (Elt F) S2x15360 .f32)), Σ' (L3 : List (View.Piece (Elt F) S2x15360 .i32)), Σ' (L4 : List (View.Piece (Elt F) S2x15360 .f32)), { L5 : List (View.Piece (Elt F) S2x15360 .i32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xo2) L2) ∗ (arg5.view.loc (c : Thread nD τ) ↦[arg5.view.set]{fullShare} arg5.view.writes (Elt F) (harg5.unread xo3) L3) ∗ (arg6.view.loc (c : Thread nD τ) ↦[arg6.view.set]{fullShare} arg6.view.writes (Elt F) (harg6.unread xo4) L4) ∗ (arg7.view.loc (c : Thread nD τ) ↦[arg7.view.set]{fullShare} arg7.view.writes (Elt F) (harg7.unread xo5) L5)) -∗ K ⟨⟩))
          ⊢ wp frame (wpE (defs₀ (F := F)) Variants.none c none) E (cc1__topk_kernel i arg2 harg2 arg3 harg3 arg4 harg4 arg5 harg5 arg6 harg6 arg7 harg7) K } := by
  refine ⟨?_, ?_, ?_, ?_, fun E K => ?run⟩
  case run =>
    simp only [cc1__topk_kernel_eq_skeleton]; unfold cc1__topk_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    isplitl [H3]; · iexact H3
    isplitl [H4]; · iexact H4
    iexact H5

def out1_B_2 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : ¬cond1_0 i)
    (x0 : Vec F S1024x256 .f32) (x1 : Vec F S1024x256 .f32) (xo2 : Vec F S2x15360 .f32) (xo3 : Vec F S2x15360 .i32) (xo4 : Vec F S2x15360 .f32) (xo5 : Vec F S2x15360 .i32) : Vec F S2x15360 .f32 :=
  arg4.view.read (Elt F) (arg4.view.writes (Elt F) (harg4.unread xo2) (kernelRun1_B c i arg2 harg2 arg3 harg3 arg4 harg4 arg5 harg5 arg6 harg6 arg7 harg7 hc0 x0 x1 xo2 xo3 xo4 xo5).1)

def out1_B_3 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : ¬cond1_0 i)
    (x0 : Vec F S1024x256 .f32) (x1 : Vec F S1024x256 .f32) (xo2 : Vec F S2x15360 .f32) (xo3 : Vec F S2x15360 .i32) (xo4 : Vec F S2x15360 .f32) (xo5 : Vec F S2x15360 .i32) : Vec F S2x15360 .i32 :=
  arg5.view.read (Elt F) (arg5.view.writes (Elt F) (harg5.unread xo3) (kernelRun1_B c i arg2 harg2 arg3 harg3 arg4 harg4 arg5 harg5 arg6 harg6 arg7 harg7 hc0 x0 x1 xo2 xo3 xo4 xo5).2.1)

def out1_B_4 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : ¬cond1_0 i)
    (x0 : Vec F S1024x256 .f32) (x1 : Vec F S1024x256 .f32) (xo2 : Vec F S2x15360 .f32) (xo3 : Vec F S2x15360 .i32) (xo4 : Vec F S2x15360 .f32) (xo5 : Vec F S2x15360 .i32) : Vec F S2x15360 .f32 :=
  arg6.view.read (Elt F) (arg6.view.writes (Elt F) (harg6.unread xo4) (kernelRun1_B c i arg2 harg2 arg3 harg3 arg4 harg4 arg5 harg5 arg6 harg6 arg7 harg7 hc0 x0 x1 xo2 xo3 xo4 xo5).2.2.1)

def out1_B_5 (c : Dev nD) (i : grid1.Coords) (arg2 : Memref sig .tc .vmem S1024x256 .f32) (harg2 : arg2.IsWhole) (arg3 : Memref sig .tc .vmem S1024x256 .f32) (harg3 : arg3.IsWhole) (arg4 : Memref sig .tc .vmem S2x15360 .f32) (harg4 : arg4.IsWhole) (arg5 : Memref sig .tc .vmem S2x15360 .i32) (harg5 : arg5.IsWhole) (arg6 : Memref sig .tc .vmem S2x15360 .f32) (harg6 : arg6.IsWhole) (arg7 : Memref sig .tc .vmem S2x15360 .i32) (harg7 : arg7.IsWhole) (hc0 : ¬cond1_0 i)
    (x0 : Vec F S1024x256 .f32) (x1 : Vec F S1024x256 .f32) (xo2 : Vec F S2x15360 .f32) (xo3 : Vec F S2x15360 .i32) (xo4 : Vec F S2x15360 .f32) (xo5 : Vec F S2x15360 .i32) : Vec F S2x15360 .i32 :=
  arg7.view.read (Elt F) (arg7.view.writes (Elt F) (harg7.unread xo5) (kernelRun1_B c i arg2 harg2 arg3 harg3 arg4 harg4 arg5 harg5 arg6 harg6 arg7 harg7 hc0 x0 x1 xo2 xo3 xo4 xo5).2.2.2.1)

def outsAt1 (c : Dev nD) : (n : ℕ) → n < cfg1.N → Vec F S2x15360 .f32 × Vec F S2x15360 .i32 × Vec F S2x15360 .f32 × Vec F S2x15360 .i32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩))
  | n + 1, hn =>
    if h0 : (n + 1) % 225 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩), out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2.1 (outsAt1 c n (Nat.lt_of_succ_lt hn)).2.2.1 (outsAt1 c n (Nat.lt_of_succ_lt hn)).2.2.2, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2.1 (outsAt1 c n (Nat.lt_of_succ_lt hn)).2.2.1 (outsAt1 c n (Nat.lt_of_succ_lt hn)).2.2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2.1 (outsAt1 c n (Nat.lt_of_succ_lt hn)).2.2.1 (outsAt1 c n (Nat.lt_of_succ_lt hn)).2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).1 (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 225 = 0) :
    outsAt1 V c t.val t.isLt = (out1_A_2 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t), out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 225 = 0) :
    outsAt1 V c t.val t.isLt = (out1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
    | ⟨4, _⟩ => (outsAt1 V c t.val t.isLt).2.2.1
    | ⟨5, _⟩ => (outsAt1 V c t.val t.isLt).2.2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem after1_4 (c : Dev nD) (t : Fin cfg1.N) : (dat1 V c).after 4 t = (outsAt1 V c t.val t.isLt).2.2.1 := by dsimp only [dat1]
theorem after1_5 (c : Dev nD) (t : Fin cfg1.N) : (dat1 V c).after 5 t = (outsAt1 V c t.val t.isLt).2.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem before1_2_B (c : Dev nD) (t : Fin cfg1.N) (h0 : ¬t.val % 225 = 0) (d) :
    (dat1 V c).before 2 t d = (outsAt1 V c (t.val - 1) (Nat.lt_of_le_of_lt (Nat.sub_le _ _) t.isLt)).1 := by
  have hN : t.val < 225 := lt_of_lt_of_eq t.isLt (show cfg1.N = 225 from N_1)
  rw [Dat.before_out_kept _ 2 rfl t (by omega) (Bool.eq_false_iff.mpr fun h => by have := (flush1_2 _).mp h; dsimp only at this; omega)
    (fun _ => rfl) (fun _ _ => rfl)]
  dsimp only [dat1]

theorem before1_3_B (c : Dev nD) (t : Fin cfg1.N) (h0 : ¬t.val % 225 = 0) (d) :
    (dat1 V c).before 3 t d = (outsAt1 V c (t.val - 1) (Nat.lt_of_le_of_lt (Nat.sub_le _ _) t.isLt)).2.1 := by
  have hN : t.val < 225 := lt_of_lt_of_eq t.isLt (show cfg1.N = 225 from N_1)
  rw [Dat.before_out_kept _ 3 rfl t (by omega) (Bool.eq_false_iff.mpr fun h => by have := (flush1_3 _).mp h; dsimp only at this; omega)
    (fun _ => rfl) (fun _ _ => rfl)]
  dsimp only [dat1]

theorem before1_4_B (c : Dev nD) (t : Fin cfg1.N) (h0 : ¬t.val % 225 = 0) (d) :
    (dat1 V c).before 4 t d = (outsAt1 V c (t.val - 1) (Nat.lt_of_le_of_lt (Nat.sub_le _ _) t.isLt)).2.2.1 := by
  have hN : t.val < 225 := lt_of_lt_of_eq t.isLt (show cfg1.N = 225 from N_1)
  rw [Dat.before_out_kept _ 4 rfl t (by omega) (Bool.eq_false_iff.mpr fun h => by have := (flush1_4 _).mp h; dsimp only at this; omega)
    (fun _ => rfl) (fun _ _ => rfl)]
  dsimp only [dat1]

theorem before1_5_B (c : Dev nD) (t : Fin cfg1.N) (h0 : ¬t.val % 225 = 0) (d) :
    (dat1 V c).before 5 t d = (outsAt1 V c (t.val - 1) (Nat.lt_of_le_of_lt (Nat.sub_le _ _) t.isLt)).2.2.2 := by
  have hN : t.val < 225 := lt_of_lt_of_eq t.isLt (show cfg1.N = 225 from N_1)
  rw [Dat.before_out_kept _ 5 rfl t (by omega) (Bool.eq_false_iff.mpr fun h => by have := (flush1_5 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 225 := lt_of_lt_of_eq t.isLt (show cfg1.N = 225 from N_1)
  by_cases h0 : t.val % 225 = 0
  · rw [outsAt1_A V c t h0]
    unfold out1_A_2 out1_A_3 out1_A_4 out1_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _ _ _ _)
    isplitl [H3]
    · unfold owns; iexists _; isplitr
      swap; · iexact H3
      ipureintro; exact View.read_writes_of_cover _ _ _ _ _ (cover1_A_3 c _ _ _ _ _ _ _ _ _ _ _ _ _ _ _ _)
    isplitl [H4]
    · unfold owns; iexists _; isplitr
      swap; · iexact H4
      ipureintro; exact View.read_writes_of_cover _ _ _ _ _ (cover1_A_4 c _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _)
  · rw [outsAt1_B V c t h0]
    simp only [before1_2_B V c t h0, before1_3_B V c t h0, before1_4_B V c t h0, before1_5_B V c t h0]
    unfold out1_B_2 out1_B_3 out1_B_4 out1_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]
    · unfold owns; iexists _; isplitr
      swap; · iexact H2
      ipureintro; rfl
    isplitl [H3]
    · unfold owns; iexists _; isplitr
      swap; · iexact H3
      ipureintro; rfl
    isplitl [H4]
    · unfold owns; iexists _; isplitr
      swap; · iexact H4
      ipureintro; rfl
    unfold owns; iexists _; isplitr
    swap; · iexact H5
    ipureintro; rfl

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

abbrev argRefs : List (Ref sig .tc) := [main_arg0, main_arg1]

theorem hostOps2_fresh : (hostOps2 : List (HloOp τ sig (Elt F))).Forall fun op => op.fresh = ∅ := by
  simp only [List.Forall]; repeat' constructor

abbrev hostOps2_W : List (Ref sig .tc) := [main_v2, main_v3, main_v4, main_v5, main_v6, main_v7, main_v8, main_v9, main_c]
theorem hostOps2_writes : (hostOps2 : List (HloOp τ sig (Elt F))).Forall fun op => op.writes ⊆ (hostOps2_W.map (Proc.devRef (τ := τ) .tc)).toFinset :=
  StableHlo.forall_writes_sub_of_map rfl

theorem hostOps2_args : ∀ a ∈ argRefs, a ∉ hostOps2_W := ListAll.forall_mem_of_all_decide (by decide +kernel)

theorem hostOps2_1_fresh : (hostOps2_1 : List (HloOp τ sig (Elt F))).Forall fun op => op.fresh = ∅ := by
  simp only [List.Forall]; repeat' constructor

abbrev hostOps2_1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v10]
theorem hostOps2_1_writes : (hostOps2_1 : List (HloOp τ sig (Elt F))).Forall fun op => op.writes ⊆ (hostOps2_1_W.map (Proc.devRef (τ := τ) .tc)).toFinset :=
  StableHlo.forall_writes_sub_of_map rfl

theorem hostOps2_1_args : ∀ a ∈ argRefs, a ∉ hostOps2_1_W := ListAll.forall_mem_of_all_decide (by decide +kernel)

theorem hostOps2_2_fresh : (hostOps2_2 : List (HloOp τ sig (Elt F))).Forall fun op => op.fresh = ∅ := by
  simp only [List.Forall]; repeat' constructor

abbrev hostOps2_2_W : List (Ref sig .tc) := [main_c_0, main_v11, main_v12, main_v13, main_v14, main_v15, main_v16, main_v17, main_v18, main_v19, main_v20, main_v21, main_c_1]
theorem hostOps2_2_writes : (hostOps2_2 : List (HloOp τ sig (Elt F))).Forall fun op => op.writes ⊆ (hostOps2_2_W.map (Proc.devRef (τ := τ) .tc)).toFinset :=
  StableHlo.forall_writes_sub_of_map rfl

theorem hostOps2_2_args : ∀ a ∈ argRefs, a ∉ hostOps2_2_W := ListAll.forall_mem_of_all_decide (by decide +kernel)

theorem hostOps2_3_fresh : (hostOps2_3 : List (HloOp τ sig (Elt F))).Forall fun op => op.fresh = ∅ := by
  simp only [List.Forall]; repeat' constructor

abbrev hostOps2_3_W : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v22]
theorem hostOps2_3_writes : (hostOps2_3 : List (HloOp τ sig (Elt F))).Forall fun op => op.writes ⊆ (hostOps2_3_W.map (Proc.devRef (τ := τ) .tc)).toFinset :=
  StableHlo.forall_writes_sub_of_map rfl

theorem hostOps2_3_args : ∀ a ∈ argRefs, a ∉ hostOps2_3_W := ListAll.forall_mem_of_all_decide (by decide +kernel)

theorem hostOps2_4_fresh : (hostOps2_4 : List (HloOp τ sig (Elt F))).Forall fun op => op.fresh = ∅ := by
  simp only [List.Forall]; repeat' constructor

abbrev hostOps2_4_W : List (Ref sig .tc) := [main_c_2, main_v23, main_v24, main_v25]
theorem hostOps2_4_writes : (hostOps2_4 : List (HloOp τ sig (Elt F))).Forall fun op => op.writes ⊆ (hostOps2_4_W.map (Proc.devRef (τ := τ) .tc)).toFinset :=
  StableHlo.forall_writes_sub_of_map rfl

theorem hostOps2_4_args : ∀ a ∈ argRefs, a ∉ hostOps2_4_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩

theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)

abbrev V1 : (c : Dev nD) → (b : Ref sig .tc) → Buf (Elt F) ((c : Thread nD τ).loc b) := fun c b => W1 m ρ c b

theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb

theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩

theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)

abbrev V2 : (c : Dev nD) → (b : Ref sig .tc) → Buf (Elt F) ((c : Thread nD τ).loc b) := fun c b => W2 m ρ c b

theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps2 (W2 m ρ c)

theorem W3_of (c : Dev nD) (r : Ref sig .tc) (h : r ∉ hostOps2_W) : W3 m ρ c (Proc.devRef .tc r) = W2 m ρ c (Proc.devRef .tc r) :=
  StableHlo.after_of_writes_sub hostOps2 _ hostOps2_writes h
theorem W3_args (c : Dev nD) : ∀ a ∈ argRefs, W3 m ρ c (Proc.devRef .tc a) = m ((c : Thread nD τ).loc a) :=
  fun a ha => (W3_of m ρ c a (hostOps2_args a ha)).trans (W2_args m ρ c a ha)

abbrev W4 : Dev nD → Valuation τ sig (Elt F) := fun c => StableHlo.after hostOps2_1 (W3 m ρ c)

theorem W4_of (c : Dev nD) (r : Ref sig .tc) (h : r ∉ hostOps2_1_W) : W4 m ρ c (Proc.devRef .tc r) = W3 m ρ c (Proc.devRef .tc r) :=
  StableHlo.after_of_writes_sub hostOps2_1 _ hostOps2_1_writes h
theorem W4_args (c : Dev nD) : ∀ a ∈ argRefs, W4 m ρ c (Proc.devRef .tc a) = m ((c : Thread nD τ).loc a) :=
  fun a ha => (W4_of m ρ c a (hostOps2_1_args a ha)).trans (W3_args m ρ c a ha)

abbrev W5 : Dev nD → Valuation τ sig (Elt F) := fun c => StableHlo.after hostOps2_2 (W4 m ρ c)

theorem W5_of (c : Dev nD) (r : Ref sig .tc) (h : r ∉ hostOps2_2_W) : W5 m ρ c (Proc.devRef .tc r) = W4 m ρ c (Proc.devRef .tc r) :=
  StableHlo.after_of_writes_sub hostOps2_2 _ hostOps2_2_writes h
theorem W5_args (c : Dev nD) : ∀ a ∈ argRefs, W5 m ρ c (Proc.devRef .tc a) = m ((c : Thread nD τ).loc a) :=
  fun a ha => (W5_of m ρ c a (hostOps2_2_args a ha)).trans (W4_args m ρ c a ha)

abbrev W6 : Dev nD → Valuation τ sig (Elt F) := fun c => StableHlo.after hostOps2_3 (W5 m ρ c)

theorem W6_of (c : Dev nD) (r : Ref sig .tc) (h : r ∉ hostOps2_3_W) : W6 m ρ c (Proc.devRef .tc r) = W5 m ρ c (Proc.devRef .tc r) :=
  StableHlo.after_of_writes_sub hostOps2_3 _ hostOps2_3_writes h
theorem W6_args (c : Dev nD) : ∀ a ∈ argRefs, W6 m ρ c (Proc.devRef .tc a) = m ((c : Thread nD τ).loc a) :=
  fun a ha => (W6_of m ρ c a (hostOps2_3_args a ha)).trans (W5_args m ρ c a ha)

abbrev W7 : Dev nD → Valuation τ sig (Elt F) := fun c => StableHlo.after hostOps2_4 (W6 m ρ c)

theorem W7_of (c : Dev nD) (r : Ref sig .tc) (h : r ∉ hostOps2_4_W) : W7 m ρ c (Proc.devRef .tc r) = W6 m ρ c (Proc.devRef .tc r) :=
  StableHlo.after_of_writes_sub hostOps2_4 _ hostOps2_4_writes h
theorem W7_args (c : Dev nD) : ∀ a ∈ argRefs, W7 m ρ c (Proc.devRef .tc a) = m ((c : Thread nD τ).loc a) :=
  fun a ha => (W7_of m ρ c a (hostOps2_4_args a ha)).trans (W6_args m ρ c a ha)

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .host (hseg hostOps2_1 hostOps2_1_sub hostOps2_1_fresh (W3 m ρ)),
    .host (hseg hostOps2_2 hostOps2_2_sub hostOps2_2_fresh (W4 m ρ)),
    .host (hseg hostOps2_3 hostOps2_3_sub hostOps2_3_fresh (W5 m ρ)),
    .host (hseg hostOps2_4 hostOps2_4_sub hostOps2_4_fresh (W6 m ρ)) ]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in

theorem ends : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(h.1 c _ (mem_uc main_arg0 (by decide))).trans (W7_main_arg0 m ρ c),
       (h.1 c _ (mem_uc main_arg1 (by decide))).trans (W7_main_arg1 m ρ c)⟩, h.2⟩) (ends m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h => h.1) (frame m ρ)

end Cert.KernelIdeal.Gen

end
-- ==== Proof.Top2.lean ====
/- The two best positions of a range, larger values first and equal values in the order of their positions, and the
   running pair that a sequence of candidates leaves: plain mathematics, no program. -/
module

public import Mathlib.Data.EReal.Basic
public import Mathlib.Order.Interval.Finset.Nat

@[expose] public section

namespace Cert.Top2

/-- Position `a` ranks before position `b`: its value is larger, or the values are equal and `a` comes first. -/
def Before (f : ℕ → EReal) (a b : ℕ) : Prop := f b < f a ∨ (f b = f a ∧ a < b)

theorem Before.trans {f : ℕ → EReal} {a b c : ℕ} (h : Before f a b) (h' : Before f b c) : Before f a c := by
  rcases h with h | ⟨h, l⟩ <;> rcases h' with h' | ⟨h', l'⟩
  · exact .inl (h'.trans h)
  · exact .inl (h' ▸ h)
  · exact .inl (h ▸ h')
  · exact .inr ⟨h'.trans h, l.trans l'⟩

theorem Before.asymm {f : ℕ → EReal} {a b : ℕ} (h : Before f a b) (h' : Before f b a) : False := by
  rcases h with h | ⟨h, l⟩ <;> rcases h' with h' | ⟨h', l'⟩
  · exact lt_asymm h h'
  · exact h.ne h'.symm
  · exact h'.ne h.symm
  · omega

theorem Before.le {f : ℕ → EReal} {a b : ℕ} (h : Before f a b) : f b ≤ f a := h.elim le_of_lt fun h => h.1.le

/-- A later position that is not larger ranks behind. -/
theorem before_of_not_lt {f : ℕ → EReal} {a b : ℕ} (l : a < b) (h : ¬ f a < f b) : Before f a b :=
  (lt_or_eq_of_le (not_lt.mp h)).imp id fun e => ⟨e, l⟩

/-- `j₁` and `j₂` are the first two positions of `[lo, hi)` in the ranking. -/
structure IsTop (f : ℕ → EReal) (lo hi j₁ j₂ : ℕ) : Prop where
  lo₁ : lo ≤ j₁
  hi₁ : j₁ < hi
  lo₂ : lo ≤ j₂
  hi₂ : j₂ < hi
  ne : j₂ ≠ j₁
  first : ∀ j, lo ≤ j → j < hi → j ≠ j₁ → Before f j₁ j
  second : ∀ j, lo ≤ j → j < hi → j ≠ j₁ → j ≠ j₂ → Before f j₂ j

/-- Of two positions one ranks before the other. -/
theorem total (f : ℕ → EReal) {a b : ℕ} (h : a ≠ b) : Before f a b ∨ Before f b a := by
  rcases lt_trichotomy (f a) (f b) with l | e | l
  · exact .inr (.inl l)
  · rcases lt_or_gt_of_ne h with l | l
    · exact .inl (.inr ⟨e.symm, l⟩)
    · exact .inr (.inr ⟨e, l⟩)
  · exact .inl (.inl l)

/-- A nonempty set has a first position in the ranking. -/
theorem exists_first (f : ℕ → EReal) (S : Finset ℕ) (h : S.Nonempty) : ∃ j ∈ S, ∀ k ∈ S, k ≠ j → Before f j k := by
  induction h using Finset.Nonempty.cons_induction with
  | singleton a => exact ⟨a, by simp, fun k hk n => absurd (by simpa using hk) n⟩
  | cons a S ha _ ih =>
    obtain ⟨j, hj, hS⟩ := ih
    have haj : a ≠ j := fun e => ha (e ▸ hj)
    rcases total f haj with b | b
    · refine ⟨a, by simp, fun k hk n => ?_⟩
      rcases Finset.mem_cons.mp hk with rfl | hk
      · exact absurd rfl n
      · by_cases e : k = j
        · exact e ▸ b
        · exact b.trans (hS k hk e)
    · refine ⟨j, by simp [hj], fun k hk n => ?_⟩
      rcases Finset.mem_cons.mp hk with rfl | hk
      · exact b
      · exact hS k hk n

/-- A range of at least two positions has its two best. -/
theorem IsTop.exists (f : ℕ → EReal) {lo hi : ℕ} (h : lo + 2 ≤ hi) : ∃ j₁ j₂, IsTop f lo hi j₁ j₂ := by
  obtain ⟨a, ha, hA⟩ := exists_first f (Finset.Ico lo hi) ⟨lo, by simp; omega⟩
  have hne : ((Finset.Ico lo hi).erase a).Nonempty := by
    by_cases e : a = lo
    · exact ⟨lo + 1, by simp; omega⟩
    · exact ⟨lo, by simp; omega⟩
  obtain ⟨b, hb, hB⟩ := exists_first f _ hne
  simp only [Finset.mem_Ico, Finset.mem_erase] at ha hb hA hB
  exact ⟨a, b, ha.1, ha.2, hb.2.1, hb.2.2, hb.1, fun j l u n => hA j ⟨l, u⟩ n, fun j l u n n' => hB j ⟨n, l, u⟩ n'⟩

/-- They are determined. -/
theorem IsTop.unique {f : ℕ → EReal} {lo hi a b c d : ℕ} (h : IsTop f lo hi a b) (h' : IsTop f lo hi c d) :
    a = c ∧ b = d := by
  have e : a = c := by
    by_contra n
    exact (h.first c h'.lo₁ h'.hi₁ (Ne.symm n)).asymm (h'.first a h.lo₁ h.hi₁ n)
  subst e
  refine ⟨rfl, ?_⟩
  by_contra n
  exact (h.second d h'.lo₂ h'.hi₂ h'.ne (Ne.symm n)).asymm (h'.second b h.lo₂ h.hi₂ h.ne n)

/-- The running pair: the two values and the words of their positions. -/
@[ext] structure St where
  v₁ : EReal
  i₁ : BitVec 32
  v₂ : EReal
  i₂ : BitVec 32

/-- One candidate enters the running pair, behind any entry it does not exceed. -/
noncomputable def St.step (s : St) (c : EReal) (i : BitVec 32) : St :=
  if s.v₁ < c then ⟨c, i, s.v₁, s.i₁⟩ else if s.v₂ < c then ⟨s.v₁, s.i₁, c, i⟩ else s

/-- Two candidates enter, the first of the two first. -/
noncomputable def St.add (s c : St) : St := (s.step c.v₁ c.i₁).step c.v₂ c.i₂

/-! The four fields after two candidates, as nested choices. -/

theorem St.add_v₁ (s c : St) : (s.add c).v₁
    = if (if s.v₁ < c.v₁ then c.v₁ else s.v₁) < c.v₂ then c.v₂ else if s.v₁ < c.v₁ then c.v₁ else s.v₁ := by
  unfold St.add St.step
  split_ifs <;> simp_all

theorem St.add_i₁ (s c : St) : (s.add c).i₁
    = if (if s.v₁ < c.v₁ then c.v₁ else s.v₁) < c.v₂ then c.i₂ else if s.v₁ < c.v₁ then c.i₁ else s.i₁ := by
  unfold St.add St.step
  split_ifs <;> simp_all

theorem St.add_v₂ (s c : St) : (s.add c).v₂
    = if (if s.v₁ < c.v₁ then c.v₁ else s.v₁) < c.v₂ then (if s.v₁ < c.v₁ then c.v₁ else s.v₁)
      else if (if s.v₁ < c.v₁ then s.v₁ else if s.v₂ < c.v₁ then c.v₁ else s.v₂) < c.v₂ then c.v₂
      else if s.v₁ < c.v₁ then s.v₁ else if s.v₂ < c.v₁ then c.v₁ else s.v₂ := by
  unfold St.add St.step
  split_ifs <;> simp_all

theorem St.add_i₂ (s c : St) : (s.add c).i₂
    = if (if s.v₁ < c.v₁ then c.v₁ else s.v₁) < c.v₂ then (if s.v₁ < c.v₁ then c.i₁ else s.i₁)
      else if (if s.v₁ < c.v₁ then s.v₁ else if s.v₂ < c.v₁ then c.v₁ else s.v₂) < c.v₂ then c.i₂
      else if s.v₁ < c.v₁ then s.i₁ else if s.v₂ < c.v₁ then c.i₁ else s.i₂ := by
  unfold St.add St.step
  split_ifs <;> simp_all

/-- The pair holds the two best positions of `[lo, hi)`: their values, and their words where the value reaches `t`. -/
def Holds (t : EReal) (f : ℕ → EReal) (lo hi : ℕ) (s : St) : Prop :=
  ∃ j₁ j₂, IsTop f lo hi j₁ j₂ ∧ s.v₁ = f j₁ ∧ s.v₂ = f j₂
    ∧ (t ≤ f j₁ → s.i₁ = BitVec.ofNat 32 j₁) ∧ (t ≤ f j₂ → s.i₂ = BitVec.ofNat 32 j₂)

/-- From the empty pair, a range's two best. -/
theorem Holds.start {t : EReal} {f : ℕ → EReal} {hi : ℕ} {s c : St} (h₁ : s.v₁ = ⊥) (h₂ : s.v₂ = ⊥)
    (hf : ∀ j, j < hi → ⊥ < f j) (h : Holds t f 0 hi c) : Holds t f 0 hi (s.add c) := by
  obtain ⟨a, b, top, e₁, e₂, w₁, w₂⟩ := h
  have n : ¬ f a < f b := not_lt.mpr (top.first b (Nat.zero_le _) top.hi₂ top.ne).le
  have e : s.add c = c := by
    unfold St.add St.step
    rw [h₁, h₂, e₁, e₂]
    simp only [hf a top.hi₁, if_true, n, if_false, hf b top.hi₂]
    ext <;> simp [e₁, e₂]
  rw [e]
  exact ⟨a, b, top, e₁, e₂, w₁, w₂⟩

/-- The two best of `[0, mid)` and the two best of `[mid, hi)` give the two best of `[0, hi)`. -/
theorem Holds.append {t : EReal} {f : ℕ → EReal} {mid hi : ℕ} {s c : St} (hs : Holds t f 0 mid s)
    (hc : Holds t f mid hi c) : Holds t f 0 hi (s.add c) := by
  obtain ⟨a, b, top, e₁, e₂, w₁, w₂⟩ := hs
  obtain ⟨p, q, toq, d₁, d₂, u₁, u₂⟩ := hc
  have hpq : f q ≤ f p := (toq.first q toq.lo₂ toq.hi₂ toq.ne).le
  have ha := top.hi₁; have hb := top.hi₂; have hp := toq.lo₁; have hq := toq.lo₂
  have hp' := toq.hi₁; have hq' := toq.hi₂
  have Ba : ∀ j, j < mid → j = a ∨ Before f a j := fun j h => by
    by_cases e : j = a
    exacts [.inl e, .inr (top.first j (Nat.zero_le _) h e)]
  have Bb : ∀ j, j < mid → j ≠ a → j = b ∨ Before f b j := fun j h n => by
    by_cases e : j = b
    exacts [.inl e, .inr (top.second j (Nat.zero_le _) h n e)]
  have Bp : ∀ j, mid ≤ j → j < hi → j = p ∨ Before f p j := fun j h h' => by
    by_cases e : j = p
    exacts [.inl e, .inr (toq.first j h h' e)]
  have Bq : ∀ j, mid ≤ j → j < hi → j ≠ p → j = q ∨ Before f q j := fun j h h' n => by
    by_cases e : j = q
    exacts [.inl e, .inr (toq.second j h h' n e)]
  have tr : ∀ {x y j : ℕ}, Before f x y → (j = y ∨ Before f y j) → Before f x j := fun h h' => by
    rcases h' with rfl | h'
    exacts [h, h.trans h']
  unfold St.add St.step
  rw [e₁, e₂, d₁, d₂]
  by_cases h1 : f a < f p
  · simp only [h1, if_true, not_lt.mpr hpq, if_false]
    have pa : Before f p a := .inl h1
    by_cases h2 : f a < f q
    · simp only [h2, if_true]
      refine ⟨p, q, ⟨Nat.zero_le _, hp', Nat.zero_le _, hq', toq.ne, fun j _ h n => ?_, fun j _ h n n' => ?_⟩, rfl, rfl, u₁, u₂⟩
      · rcases lt_or_ge j mid with l | l
        exacts [tr pa (Ba j l), toq.first j l h n]
      · rcases lt_or_ge j mid with l | l
        exacts [tr (.inl h2) (Ba j l), toq.second j l h n n']
    · simp only [h2, if_false]
      refine ⟨p, a, ⟨Nat.zero_le _, hp', Nat.zero_le _, by omega, by omega, fun j _ h n => ?_, fun j _ h n n' => ?_⟩, rfl, rfl, u₁, w₁⟩
      · rcases lt_or_ge j mid with l | l
        exacts [tr pa (Ba j l), toq.first j l h n]
      · rcases lt_or_ge j mid with l | l
        exacts [top.first j (Nat.zero_le _) l n', tr (before_of_not_lt (by omega) h2) (Bq j l h n)]
  · have ap : Before f a p := before_of_not_lt (by omega) h1
    by_cases h2 : f b < f p
    · simp only [h1, if_false, h2, if_true, not_lt.mpr hpq, not_lt.mpr (hpq.trans (not_lt.mp h1))]
      refine ⟨a, p, ⟨Nat.zero_le _, by omega, Nat.zero_le _, hp', by omega, fun j _ h n => ?_, fun j _ h n n' => ?_⟩, rfl, rfl, w₁, u₁⟩
      · rcases lt_or_ge j mid with l | l
        exacts [top.first j (Nat.zero_le _) l n, tr ap (Bp j l h)]
      · rcases lt_or_ge j mid with l | l
        exacts [tr (.inl h2) (Bb j l n), toq.first j l h n']
    · simp only [h1, if_false, h2, not_lt.mpr (hpq.trans (not_lt.mp h1)), not_lt.mpr (hpq.trans (not_lt.mp h2)), e₁, e₂]
      have bp : Before f b p := before_of_not_lt (by omega) h2
      refine ⟨a, b, ⟨Nat.zero_le _, by omega, Nat.zero_le _, by omega, top.ne, fun j _ h n => ?_, fun j _ h n n' => ?_⟩, e₁, e₂, w₁, w₂⟩
      · rcases lt_or_ge j mid with l | l
        exacts [top.first j (Nat.zero_le _) l n, tr ap (Bp j l h)]
      · rcases lt_or_ge j mid with l | l
        exacts [top.second j (Nat.zero_le _) l n n', tr bp (Bp j l h)]

end Cert.Top2

end
-- ==== Proof.Tile.lean ====
/- What one tile contributes to a row: the largest value, the largest of the others, and the two positions recovered
   from counts, sums and sums of squares over the marked positions. Extended reals throughout; no program. -/
module

public import Idealize.ShloMosaic.PureOps.Ideal
public import proofs.«01_k».proof.Proof.Top2

@[expose] public section

noncomputable section

namespace Cert.Tile

open Idealize.ShloMosaic Cert.Top2
open scoped BigOperators

/-- The seven rows of position weights: the position in two pieces, one, and its square in four pieces. -/
def weight (r : Fin 7) (j : ℕ) : ℤ :=
  ![((j / 4 * 4 : ℕ) : ℤ), (j % 4 : ℕ), 1, (j * j / 262144 * 262144 : ℕ), (j * j / 4096 % 64 * 4096 : ℕ),
    (j * j / 64 % 64 * 64 : ℕ), (j * j % 64 : ℕ)] r

/-- What the marked largest values are lowered by. -/
def big : EReal := Ideal.ofBits .f32 0x749DC5AE#32

def top (a : Fin 1024 → EReal) : EReal := Finset.univ.sup a
def mark (m : EReal) (a : Fin 1024 → EReal) (j : Fin 1024) : EReal := if m ≤ a j then 1 else 0
def rest (a : Fin 1024 → EReal) (j : Fin 1024) : EReal := a j - mark (top a) a j * big
def stat (mk : Fin 1024 → EReal) (r : Fin 7) : EReal := ∑ j : Fin 1024, (((weight r j : ℤ) : ℝ) : EReal) * mk j
def pos (mk : Fin 1024 → EReal) : EReal := stat mk 0 + stat mk 1
def cnt (mk : Fin 1024 → EReal) : EReal := stat mk 2
def sqs (mk : Fin 1024 → EReal) : EReal := stat mk 3 + stat mk 4 + stat mk 5 + stat mk 6
def disc (mk : Fin 1024 → EReal) : EReal := Ideal.sqrt (max (((2 : ℝ) : EReal) * sqs mk - pos mk * pos mk) 0)
def lowPos (mk : Fin 1024 → EReal) : EReal :=
  if cnt mk < ((3 / 2 : ℝ) : EReal) then pos mk else (pos mk - disc mk) * ((1 / 2 : ℝ) : EReal)
def highPos (mk : Fin 1024 → EReal) : EReal := (pos mk + disc mk) * ((1 / 2 : ℝ) : EReal)

/-- The tile's two candidates, with their positions' words, `off` the word of the tile's first position. -/
def cand (a : Fin 1024 → EReal) (off : BitVec 32) : St where
  v₁ := top a
  i₁ := Ideal.fptosi 32 (lowPos (mark (top a) a)) + off
  v₂ := if ((3 / 2 : ℝ) : EReal) < cnt (mark (top a) a) then top a else top (rest a)
  i₂ := Ideal.fptosi 32 (if ((3 / 2 : ℝ) : EReal) < cnt (mark (top a) a) then highPos (mark (top a) a)
    else lowPos (mark (top (rest a)) (rest a))) + off

/-! ### The statistics of a set of marked positions -/

theorem big_eq : ∃ b : ℝ, big = (b : EReal) ∧ (9 * 10 ^ 31 : ℝ) < b := by
  refine ⟨_, by unfold big; simp [Ideal.ofBits, Ideal.ieee, -EReal.coe_mul]; rfl, ?_⟩
  norm_num

theorem coe_sum {ι : Type} (T : Finset ι) (f : ι → ℝ) : ((∑ j ∈ T, f j : ℝ) : EReal) = ∑ j ∈ T, (f j : EReal) := by
  classical
  induction T using Finset.induction_on with
  | empty => simp
  | insert a T h ih => rw [Finset.sum_insert h, Finset.sum_insert h, EReal.coe_add, ih]

variable {T : Finset (Fin 1024)}

/-- The marks of `T`. -/
def ind (T : Finset (Fin 1024)) (j : Fin 1024) : EReal := if j ∈ T then 1 else 0

theorem stat_ind (r : Fin 7) : stat (ind T) r = ((∑ j ∈ T, ((weight r j : ℤ) : ℝ) : ℝ) : EReal) := by
  unfold stat ind
  simp only [mul_ite, mul_one, mul_zero]
  rw [coe_sum, Finset.sum_ite_mem, Finset.univ_inter]

theorem pos_ind : pos (ind T) = ((∑ j ∈ T, (j.val : ℝ) : ℝ) : EReal) := by
  unfold pos
  rw [stat_ind, stat_ind, ← EReal.coe_add, ← Finset.sum_add_distrib]
  congr 1
  refine Finset.sum_congr rfl fun j _ => ?_
  have : weight 0 j + weight 1 j = (j.val : ℤ) := by show ((_ : ℕ) : ℤ) + ((_ : ℕ) : ℤ) = _; omega
  exact_mod_cast congrArg (Int.cast (R := ℝ)) this

theorem cnt_ind : cnt (ind T) = ((T.card : ℝ) : EReal) := by
  unfold cnt
  rw [stat_ind]
  congr 1
  simp [weight]

theorem sq_ind : sqs (ind T) = ((∑ j ∈ T, (j.val : ℝ) * (j.val : ℝ) : ℝ) : EReal) := by
  unfold sqs
  rw [stat_ind, stat_ind, stat_ind, stat_ind, ← EReal.coe_add, ← EReal.coe_add, ← EReal.coe_add,
    ← Finset.sum_add_distrib, ← Finset.sum_add_distrib, ← Finset.sum_add_distrib]
  congr 1
  refine Finset.sum_congr rfl fun j _ => ?_
  have : weight 3 j + weight 4 j + weight 5 j + weight 6 j = ((j.val * j.val : ℕ) : ℤ) := by
    show ((_ : ℕ) : ℤ) + ((_ : ℕ) : ℤ) + ((_ : ℕ) : ℤ) + ((_ : ℕ) : ℤ) = _
    generalize j.val * j.val = q
    omega
  have := congrArg (Int.cast (R := ℝ)) this
  push_cast at this ⊢
  linarith

theorem lowPos_one (a : Fin 1024) : lowPos (ind {a}) = ((a.val : ℝ) : EReal) := by
  unfold lowPos
  rw [cnt_ind, pos_ind, if_pos (by rw [EReal.coe_lt_coe_iff]; norm_num)]
  simp

theorem disc_two {a b : Fin 1024} (h : a < b) : disc (ind {a, b}) = (((b.val : ℝ) - a.val : ℝ) : EReal) := by
  have hab : (a.val : ℝ) < b.val := by exact_mod_cast h
  unfold disc
  rw [sq_ind, pos_ind, Finset.sum_pair h.ne, Finset.sum_pair h.ne, ← EReal.coe_mul, ← EReal.coe_mul, ← EReal.coe_sub,
    show (2 : ℝ) * ((a.val : ℝ) * a.val + b.val * b.val) - ((a.val : ℝ) + b.val) * (a.val + b.val)
      = ((b.val : ℝ) - a.val) ^ 2 from by ring,
    max_eq_left (by exact_mod_cast sq_nonneg ((b.val : ℝ) - a.val)), Ideal.sqrt_coe,
    if_neg (not_lt.mpr (sq_nonneg _)), Real.sqrt_sq (by linarith)]

theorem cnt_two {a b : Fin 1024} (h : a < b) : cnt (ind {a, b}) = ((2 : ℝ) : EReal) := by
  rw [cnt_ind, Finset.card_pair h.ne]; norm_num

theorem lowPos_two {a b : Fin 1024} (h : a < b) : lowPos (ind {a, b}) = ((a.val : ℝ) : EReal) := by
  unfold lowPos
  rw [cnt_two h, disc_two h, pos_ind, if_neg (by rw [EReal.coe_lt_coe_iff]; norm_num), Finset.sum_pair h.ne,
    ← EReal.coe_sub, ← EReal.coe_mul]
  congr 1; ring

theorem highPos_two {a b : Fin 1024} (h : a < b) : highPos (ind {a, b}) = ((b.val : ℝ) : EReal) := by
  unfold highPos
  rw [disc_two h, pos_ind, Finset.sum_pair h.ne, ← EReal.coe_add, ← EReal.coe_mul]
  congr 1; ring

theorem fptosi_nat (n : ℕ) (h : n < 1024) : Ideal.fptosi 32 ((n : ℝ) : EReal) = BitVec.ofNat 32 n := by
  unfold Ideal.fptosi
  have : Ideal.toIntClamped (-(2 ^ (32 - 1) : ℕ)) ((2 ^ (32 - 1) : ℕ) - 1) ((n : ℝ) : EReal) = (n : ℤ) := by
    show max _ (min _ (if 0 ≤ (n : ℝ) then ⌊(n : ℝ)⌋ else ⌈(n : ℝ)⌉)) = _
    rw [if_pos (Nat.cast_nonneg n), Int.floor_natCast]
    norm_num
    omega
  rw [this, BitVec.ofInt_natCast]

/-! ### The tile's two best positions -/

theorem top_eq {a : Fin 1024 → EReal} {p : Fin 1024} (h : ∀ j, a j ≤ a p) : top a = a p :=
  le_antisymm (Finset.sup_le fun j _ => h j) (Finset.le_sup (f := a) (Finset.mem_univ p))

theorem mark_eq_ind {m : EReal} {a : Fin 1024 → EReal} (h : ∀ j, j ∈ T ↔ m ≤ a j) : mark m a = ind T := by
  funext j
  unfold mark ind
  simp only [h]

/-- A row of reals of moderate size, no three of whose values that reach `t` are equal: the tile's candidates are its
    two best. -/
theorem cand_holds {t : EReal} {f : ℕ → EReal} {lo : ℕ} {a : Fin 1024 → EReal} (hf : ∀ j : Fin 1024, f (lo + j) = a j)
    (hr : ∀ j, ∃ x : ℝ, a j = (x : EReal) ∧ |x| ≤ 4 * 10 ^ 30)
    (hg : ∀ p q r : Fin 1024, p ≠ q → q ≠ r → p ≠ r → a p = a q → a q = a r → ¬ t ≤ a p) :
    Holds t f lo (lo + 1024) (cand a (BitVec.ofNat 32 lo)) := by
  have hword : ∀ p : Fin 1024, Ideal.fptosi 32 ((p.val : ℝ) : EReal) + BitVec.ofNat 32 lo = BitVec.ofNat 32 (lo + p.val) := by
    intro p
    rw [fptosi_nat _ p.isLt, ← BitVec.ofNat_add, Nat.add_comm]
  obtain ⟨j₁, j₂, ht⟩ := IsTop.exists f (lo := lo) (hi := lo + 1024) (by omega)
  obtain ⟨p, rfl⟩ : ∃ p : Fin 1024, j₁ = lo + p.val := ⟨⟨j₁ - lo, by have := ht.hi₁; omega⟩, by have := ht.lo₁; simp; omega⟩
  obtain ⟨q, rfl⟩ : ∃ q : Fin 1024, j₂ = lo + q.val := ⟨⟨j₂ - lo, by have := ht.hi₂; omega⟩, by have := ht.lo₂; simp; omega⟩
  have hqp : q ≠ p := fun e => ht.ne (by rw [e])
  have first : ∀ j : Fin 1024, j ≠ p → Before f (lo + p) (lo + j) := fun j n =>
    ht.first _ (by omega) (by omega) fun e => n (Fin.ext (by omega))
  have second : ∀ j : Fin 1024, j ≠ p → j ≠ q → Before f (lo + q) (lo + j) := fun j n n' =>
    ht.second _ (by omega) (by omega) (fun e => n (Fin.ext (by omega))) fun e => n' (Fin.ext (by omega))
  have le₁ : ∀ j, a j ≤ a p := fun j => by
    by_cases e : j = p
    · rw [e]
    · have := (first j e).le; rwa [hf, hf] at this
  have le₂ : ∀ j, j ≠ p → a j ≤ a q := fun j n => by
    by_cases e : j = q
    · rw [e]
    · have := (second j n e).le; rwa [hf, hf] at this
  have htop : top a = a p := top_eq le₁
  refine ⟨_, _, ht, ?_⟩
  rw [hf, hf]
  by_cases hpq : a p = a q
  · have hlt : p < q := by
      rcases first q hqp with h | ⟨_, h⟩
      · rw [hf, hf, hpq] at h; exact absurd h (lt_irrefl _)
      · exact Fin.lt_def.mpr (by omega)
    have hmk := mark_eq_ind (m := top a) (a := a) (T := Finset.univ.filter fun j => a p ≤ a j) (by simp [htop])
    have hcnt : ((3 / 2 : ℝ) : EReal) < cnt (mark (top a) a) := by
      rw [hmk, cnt_ind, EReal.coe_lt_coe_iff]
      have : 2 ≤ (Finset.univ.filter fun j => a p ≤ a j).card := by
        rw [← Finset.card_pair hlt.ne]
        exact Finset.card_le_card fun j hj => by
          rcases Finset.mem_insert.mp hj with rfl | hj
          · simp
          · rw [Finset.mem_singleton.mp hj]; simp [hpq]
      have : (2 : ℝ) ≤ ((Finset.univ.filter fun j => a p ≤ a j).card : ℝ) := by exact_mod_cast this
      linarith
    have two : t ≤ a p → (Finset.univ.filter fun j => a p ≤ a j) = {p, q} := fun htp => by
      ext j
      simp only [Finset.mem_filter, Finset.mem_univ, true_and, Finset.mem_insert, Finset.mem_singleton]
      refine ⟨fun h => ?_, fun h => ?_⟩
      · by_contra n
        push Not at n
        exact hg p q j hqp.symm n.2.symm n.1.symm hpq (hpq ▸ le_antisymm h (le₁ j)) htp
      · rcases h with rfl | rfl
        · exact le_rfl
        · exact hpq.le
    unfold cand
    simp only [hcnt, if_true]
    refine ⟨htop, htop.trans hpq, fun htp => ?_, fun htq => ?_⟩
    · rw [hmk, two htp, lowPos_two hlt, hword]
    · rw [hmk, two (hpq ▸ htq), highPos_two hlt, hword]
  · have hlt : a q < a p := lt_of_le_of_ne (le₁ q) (Ne.symm hpq)
    have hmk : mark (top a) a = ind {p} := mark_eq_ind fun j => by
      rw [htop, Finset.mem_singleton]
      refine ⟨fun e => by rw [e], fun h => ?_⟩
      by_contra n
      exact absurd (lt_of_lt_of_le hlt h) (not_lt.mpr (le₂ j n))
    have hrest : ∀ j, j ≠ p → rest a j = a j := fun j n => by
      unfold rest
      rw [hmk]
      simp [ind, n]
    have hrp : rest a p < a q := by
      obtain ⟨b, hb, hb'⟩ := big_eq
      obtain ⟨x, hx, hx'⟩ := hr p
      obtain ⟨y, hy, hy'⟩ := hr q
      unfold rest
      rw [hmk, hx, hy, hb]
      simp only [ind, Finset.mem_singleton, if_true, one_mul]
      rw [← EReal.coe_sub, EReal.coe_lt_coe_iff]
      have := abs_le.mp hx'
      have := abs_le.mp hy'
      norm_num at *
      linarith
    have htop₂ : top (rest a) = a q := by
      rw [← hrest q hqp]
      refine top_eq fun j => ?_
      by_cases e : j = p
      · rw [e, hrest q hqp]; exact hrp.le
      · rw [hrest j e, hrest q hqp]; exact le₂ j e
    have hcnt : ¬ ((3 / 2 : ℝ) : EReal) < cnt (mark (top a) a) := by
      rw [hmk, cnt_ind, EReal.coe_lt_coe_iff]
      norm_num
    have hmk₂ := mark_eq_ind (m := top (rest a)) (a := rest a)
      (T := Finset.univ.filter fun j => a q ≤ rest a j) (by simp [htop₂])
    unfold cand
    simp only [hcnt, if_false]
    refine ⟨htop, htop₂, fun _ => by rw [hmk, lowPos_one, hword], fun htq => ?_⟩
    rw [hmk₂]
    have mem : ∀ j, a q ≤ rest a j ↔ (j ≠ p ∧ a j = a q) := fun j => by
      by_cases e : j = p
      · simp only [e, ne_eq, not_true, false_and, iff_false, not_le]; exact hrp
      · rw [hrest j e]
        exact ⟨fun h => ⟨e, le_antisymm (le₂ j e) h⟩, fun h => h.2.ge⟩
    by_cases hex : ∃ r, r ≠ p ∧ r ≠ q ∧ a r = a q
    · obtain ⟨r, hrp', hrq, hre⟩ := hex
      have hqr : q < r := by
        rcases second r hrp' hrq with h | ⟨_, h⟩
        · rw [hf, hf, hre] at h; exact absurd h (lt_irrefl _)
        · exact Fin.lt_def.mpr (by omega)
      have : (Finset.univ.filter fun j => a q ≤ rest a j) = {q, r} := by
        ext j
        simp only [Finset.mem_filter, Finset.mem_univ, true_and, Finset.mem_insert, Finset.mem_singleton, mem]
        refine ⟨fun h => ?_, fun h => ?_⟩
        · by_contra n
          push Not at n
          exact hg q r j hrq.symm n.2.symm n.1.symm hre.symm (hre.trans h.2.symm) htq
        · rcases h with rfl | rfl
          · exact ⟨hqp, rfl⟩
          · exact ⟨hrp', hre⟩
      rw [this, lowPos_two hqr, hword]
    · have : (Finset.univ.filter fun j => a q ≤ rest a j) = {q} := by
        ext j
        simp only [Finset.mem_filter, Finset.mem_univ, true_and, Finset.mem_singleton, mem]
        refine ⟨fun h => ?_, fun h => by rw [h]; exact ⟨hqp, rfl⟩⟩
        by_contra n
        exact hex ⟨j, h.1, n, h.2⟩
      rw [this, lowPos_one, hword]

end Cert.Tile

end
-- ==== Proof.Weights.lean ====
/- The search kernel's tile of products and its seven rows of position weights, read at an index. -/
module

public import Idealize.ShloMosaic.Lib.Pointwise
public import proofs.«01_k».proof.Proof.Gen.KernelIdeal.Skeleton
public import proofs.«01_k».proof.Proof.Tile

@[expose] public section

set_option maxRecDepth 16384

noncomputable section

namespace Cert.Pay

open Idealize.ShloMosaic Cert.KernelIdeal Cert.KernelIdeal.Gen Cert.Top2 Cert.Tile
open scoped BigOperators

variable [Facts]

/-- The printed weights. -/
def wts : FVec Ideal S7x1024 .f32 :=
  k1_pay14 k1_pay6 k1_pay7 k1_pay8 k1_pay9 k1_pay10 k1_pay11 k1_pay12 k1_pay13

def row (s : FVec Ideal S1024x1024 .f32) (n j : Fin 1024) : EReal := s (ix2 n j)
def col (s : FVec Ideal S1024x1024 .f32) (n j : Fin 1024) : EReal := s (ix2 j n)

/-- A literal at the extended reals, whatever its word. -/
theorem scalar_ofBits (b : BitVec 32) : (Scalar.ofBits .f32 b : Ideal .f32) = Ideal.ofBits .f32 b := rfl

theorem lit_zero : (Scalar.ofBits .f32 0x00000000#32 : Ideal .f32) = (0 : EReal) :=
  (scalar_ofBits _).trans Ideal.ofBits_zero_f32
theorem lit_one : (Scalar.ofBits .f32 0x3F800000#32 : Ideal .f32) = (1 : EReal) :=
  (scalar_ofBits _).trans (by simp [Ideal.ofBits, Ideal.ieee, -EReal.coe_mul]; norm_num)
theorem lit_two : (Scalar.ofBits .f32 0x40000000#32 : Ideal .f32) = ((2 : ℝ) : EReal) :=
  (scalar_ofBits _).trans (by simp [Ideal.ofBits, Ideal.ieee, -EReal.coe_mul]; norm_num)
theorem lit_half : (Scalar.ofBits .f32 0x3F000000#32 : Ideal .f32) = ((1 / 2 : ℝ) : EReal) :=
  (scalar_ofBits _).trans (by simp [Ideal.ofBits, Ideal.ieee, -EReal.coe_mul]; norm_num)
theorem lit_three_halves : (Scalar.ofBits .f32 0x3FC00000#32 : Ideal .f32) = ((3 / 2 : ℝ) : EReal) :=
  (scalar_ofBits _).trans (by simp [Ideal.ofBits, Ideal.ieee, -EReal.coe_mul]; norm_num)
theorem lit_big : (Scalar.ofBits .f32 0x749DC5AE#32 : Ideal .f32) = big := scalar_ofBits _
theorem lit_bot : Ideal.ofBits .f32 0xFF800000#32 = ⊥ := by
  simp [Ideal.ofBits, Ideal.ieee]

theorem pay5_apply (a b : Vec Ideal S1024x256 .f32) (n j : Fin 1024) :
    k1_pay5 (F := Ideal) a b (ix2 n j) = ∑ l : Fin 256, a (ix2 n l) * b (ix2 j l) := by
  pointwise [k1_pay5]

theorem fold_max (f : Fin 1024 → EReal) : Finset.fold max (Ideal.ofBits .f32 0xFF800000#32) f Finset.univ = top f := by
  rw [lit_bot]; rfl

/-! ### The weights -/

/-- The seven weights' words at a position's word. -/
def words (x : BitVec 32) (r : Fin 7) : BitVec 32 :=
  ![IntOp.shli .vector (IntOp.shrsi .vector x 2#32) 2#32, IntOp.andi x 3#32, 1#32,
    IntOp.shli .vector (IntOp.shrsi .vector (IntOp.muli x x) 18#32) 18#32,
    IntOp.shli .vector (IntOp.andi (IntOp.shrsi .vector (IntOp.muli x x) 12#32) 63#32) 12#32,
    IntOp.shli .vector (IntOp.andi (IntOp.shrsi .vector (IntOp.muli x x) 6#32) 63#32) 6#32,
    IntOp.andi (IntOp.muli x x) 63#32] r

theorem words_toInt (r : Fin 7) : ∀ j : Fin 1024, (words (BitVec.ofNat 32 j) r).toInt = weight r j := by
  revert r
  decide +kernel

theorem wts_apply (r : Fin 7) (j : Fin 1024) : wts (ix2 r j) = (((weight r j : ℤ) : ℝ) : EReal) := by
  rw [← words_toInt]
  pointwise [wts, k1_pay14, k1_pay6, k1_pay7, k1_pay8, k1_pay9, k1_pay10, k1_pay11, k1_pay12, k1_pay13]
  fin_vals r with hr
  all_goals
    simp only [hr, Nat.reduceSub, Nat.reduceLT, ↓reduceDIte]
    obtain ⟨k, hk⟩ := r
    dsimp only at hr
    subst hr
    rfl

end Cert.Pay

end
-- ==== Proof.Unit.lean ====
/- The rows made unit length, as the ideal reading gives them: always real numbers between -1 and 1. The padded tables the
   search runs over, and the products of their rows. -/
module

public import proofs.«01_k».proof.Proof.Weights

@[expose] public section

set_option maxRecDepth 16384

noncomputable section

namespace Cert.Sim

open Idealize.ShloMosaic
open scoped BigOperators

/-- The least divisor, and the value that marks padding. -/
abbrev eps : EReal := Ideal.ofBits .f32 0x322BCC77#32
abbrev low : EReal := Ideal.ofBits .f32 0xF149F2CA#32

theorem eps_real : ∃ e : ℝ, eps = e ∧ 0 < e := by
  refine ⟨11258999 / 2 ^ 50, ?_, by positivity⟩
  simp [eps, Ideal.ofBits, Ideal.ieee, -EReal.coe_mul]
  norm_num

theorem low_real : ∃ p : ℝ, low = p ∧ p < -1000 ∧ |p| ≤ 4 * 10 ^ 30 := by
  refine ⟨-(13234890 * 2 ^ 76), ?_, by norm_num, by rw [abs_neg, abs_of_pos (by positivity)]; norm_num⟩
  simp [low, Ideal.ofBits, Ideal.ieee, -EReal.coe_mul]

theorem coe_sum {n : ℕ} (f : Fin n → ℝ) : ((∑ l, f l : ℝ) : EReal) = ∑ l, (f l : EReal) :=
  map_sum (⟨⟨Real.toEReal, EReal.coe_zero⟩, EReal.coe_add⟩ : ℝ →+ EReal) f Finset.univ

abbrev Table : Type := (⟨2, ![15000, 200]⟩ : Shape).Idx → EReal

/-- An entry of a row over the row's length, the length not less than `eps`. -/
def unit (x : Table) (r : Fin 15000) (j : Fin 200) : EReal :=
  Ideal.div (x (ix2 r j)) (max (Ideal.sqrt (∑ l, x (ix2 r l) * x (ix2 r l))) eps)

theorem unit_real (x : Table) (r : Fin 15000) (j : Fin 200) : ∃ a : ℝ, unit x r j = a ∧ |a| ≤ 1 := by
  obtain ⟨e, he, hpos⟩ := eps_real
  unfold unit
  rw [he]
  have hn : ∀ l ∈ Finset.univ, 0 ≤ x (ix2 r l) * x (ix2 r l) := fun l _ => by
    rcases le_total 0 (x (ix2 r l)) with h | h
    · exact mul_nonneg h h
    · exact EReal.mul_nonneg_iff.mpr (.inr ⟨h, h⟩)
  by_cases ht : ∑ l, x (ix2 r l) * x (ix2 r l) = ⊤
  · refine ⟨0, ?_, by simp⟩
    rw [ht, show Ideal.sqrt ⊤ = ⊤ from rfl, max_eq_left le_top]
    simp [Ideal.div]
  · have hx : ∀ l, ∃ a : ℝ, x (ix2 r l) = a := fun l => by
      have hl : x (ix2 r l) * x (ix2 r l) ≠ ⊤ := fun h => ht (top_le_iff.mp
        (h ▸ Finset.single_le_sum (f := fun l => x (ix2 r l) * x (ix2 r l)) hn (Finset.mem_univ l)))
      induction h : x (ix2 r l) with
      | bot => simp [h] at hl
      | top => simp [h] at hl
      | coe a => exact ⟨a, rfl⟩
    choose a ha using hx
    have hs : ∑ l, x (ix2 r l) * x (ix2 r l) = ((∑ l, a l * a l : ℝ) : EReal) := by
      rw [coe_sum]
      exact Finset.sum_congr rfl fun l _ => by rw [ha, ← EReal.coe_mul]
    have h0 : 0 ≤ ∑ l, a l * a l := Finset.sum_nonneg fun l _ => mul_self_nonneg _
    rw [hs, Ideal.sqrt_coe, if_neg (not_lt.mpr h0), ha j, ← EReal.coe_strictMono.monotone.map_max]
    set d := max (Real.sqrt (∑ l, a l * a l)) e
    have hd : 0 < d := lt_of_lt_of_le hpos (le_max_right _ _)
    refine ⟨a j / d, ?_, ?_⟩
    · rw [Ideal.div, if_neg (by exact_mod_cast hd.ne'), div_eq_mul_inv, EReal.coe_mul, EReal.coe_inv]
    · rw [abs_div, abs_of_pos hd, div_le_one hd]
      refine (Real.abs_le_sqrt ?_).trans (le_max_left _ _)
      rw [sq]
      exact Finset.single_le_sum (f := fun l => a l * a l) (fun l _ => mul_self_nonneg _) (Finset.mem_univ j)

/-- The product of two unit rows. -/
def sim (x y : Table) (r p : Fin 15000) : EReal := ∑ j, unit x r j * unit y p j

theorem sim_real (x y : Table) (r p : Fin 15000) : ∃ a : ℝ, sim x y r p = a ∧ |a| ≤ 200 := by
  choose a ha hb using fun j => unit_real x r j
  choose c hc hd using fun j => unit_real y p j
  refine ⟨∑ j, a j * c j, ?_, ?_⟩
  · unfold sim
    rw [coe_sum]
    exact Finset.sum_congr rfl fun j _ => by rw [ha, hc, ← EReal.coe_mul]
  · refine (Finset.abs_sum_le_sum_abs _ _).trans ((Finset.sum_le_sum (g := fun _ => (1 : ℝ)) fun j _ => ?_).trans (by simp))
    rw [abs_mul]
    exact mul_le_one₀ (hb j) (abs_nonneg _) (hd j)

theorem sim_comm (x y : Table) (r p : Fin 15000) : sim x y r p = sim y x p r :=
  Finset.sum_congr rfl fun _ _ => mul_comm _ _

/-- Which row of the table lies at a place of the padded table: 3000 rows, then 72 places of padding, and again. -/
abbrev Valid (n : ℕ) : Prop := n % 3072 < 3000
abbrev back (n : ℕ) : ℕ := n / 3072 * 3000 + n % 3072

theorem back_lt {n : ℕ} (h : n < 15360) (v : Valid n) : back n < 15000 := by unfold back Valid at *; omega

/-- The mark of a padding place. -/
def mark (n : ℕ) : EReal := if Valid n then 0 else low

/-- The padded table: a unit row, two columns that carry a one and the padding's mark, zeros. -/
def spread (x : Table) (a b : EReal) (n : Fin 15360) (l : Fin 256) : EReal :=
  if l.val = 201 then b else if l.val = 200 then a
  else if h : Valid n.val ∧ l.val < 200 then unit x ⟨back n.val, back_lt n.isLt h.1⟩ ⟨l.val, h.2⟩ else 0

/-- The product of two padded rows. -/
def prod (x y : Table) (n m : Fin 15360) : EReal :=
  ∑ l, spread x (mark n.val) 1 n l * spread y 1 (mark m.val) m l

theorem prod_eq (x y : Table) (n m : Fin 15360) : prod x y n m
    = (∑ j : Fin 200, spread x (mark n.val) 1 n (j.castLE (by decide)) * spread y 1 (mark m.val) m (j.castLE (by decide)))
      + (mark n.val + mark m.val) := by
  unfold prod
  rw [← (Fin.sum_congr' (fun l : Fin 256 => spread x (mark n.val) 1 n l * spread y 1 (mark m.val) m l)
    (show 200 + 56 = 256 from rfl)), Fin.sum_univ_add]
  congr 1
  rw [Fin.sum_univ_succ, Fin.sum_univ_succ, Finset.sum_eq_zero, add_zero]
  · simp [spread]
  · intro l _
    have h : ∀ (z : Table) (a b : EReal) (k : Fin 15360), spread z a b k (Fin.cast rfl (Fin.natAdd 200 l.succ.succ)) = 0 :=
      fun z a b k => by
        have e : (Fin.cast rfl (Fin.natAdd 200 l.succ.succ) : Fin 256).val = 202 + l.val := by simp; omega
        simp only [spread, e]
        rw [if_neg (by omega), if_neg (by omega), dif_neg (by omega)]
    rw [h, zero_mul]

theorem prod_swap (x y : Table) (n m : Fin 15360) : prod x y n m = prod y x m n := by
  rw [prod_eq, prod_eq, add_comm (mark n.val)]
  congr 1
  refine Finset.sum_congr rfl fun j _ => ?_
  rw [mul_comm]
  have h : ∀ (z : Table) (a b a' b' : EReal) (k : Fin 15360), spread z a b k (j.castLE (by decide))
      = spread z a' b' k (j.castLE (by decide)) := fun z a b a' b' k => by
    simp [spread, show j.val ≠ 200 by omega, show j.val ≠ 201 by omega]
  exact congrArg₂ _ (h ..) (h ..)

theorem prod_valid (x y : Table) (n m : Fin 15360) (hn : Valid n.val) (hm : Valid m.val) :
    prod x y n m = sim x y ⟨back n.val, back_lt n.isLt hn⟩ ⟨back m.val, back_lt m.isLt hm⟩ := by
  rw [prod_eq, mark, mark, if_pos hn, if_pos hm, add_zero, add_zero]
  refine Finset.sum_congr rfl fun j _ => ?_
  simp [spread, show j.val ≠ 200 by omega, show j.val ≠ 201 by omega, hn, hm]

theorem prod_invalid (x y : Table) (n m : Fin 15360) (hn : Valid n.val) (hm : ¬ Valid m.val) : prod x y n m = low := by
  rw [prod_eq, mark, mark, if_pos hn, if_neg hm, zero_add, Finset.sum_eq_zero, zero_add]
  intro j _
  simp [spread, show j.val ≠ 200 by omega, show j.val ≠ 201 by omega, hm]

end Cert.Sim

end
-- ==== Proof.Prep.lean ====
/- The preparing kernel: what its two padded tables hold. -/
module

public import proofs.«01_k».proof.Proof.IdealFrame
public import proofs.«01_k».proof.Proof.Unit
public import Idealize.ShloMosaic.Lib.WritesUnit
public import Idealize.ShloMosaic.Lib.Pipeline.ValueKit.Geometry

@[expose] public section

set_option maxRecDepth 16384

noncomputable section

namespace Cert.Region0

open Idealize.ShloMosaic Idealize.ShloMosaic.TcCoe Idealize.SL.Sem Cert.KernelIdeal Cert.KernelIdeal.Gen Cert.Sim

/-- A block: the unit rows, then the two columns, over zeros. -/
def block (u : S3000x200.Idx → EReal) (p q : S3072x1.Idx → EReal) (z : S3072x256.Idx → EReal) (r : Fin 3072) (j : Fin 256) : EReal :=
  if j.val = 201 then q (ix2 r 0) else if j.val = 200 then p (ix2 r 0)
  else if h : r.val < 3000 ∧ j.val < 200 then u (ix2 ⟨r.val, h.1⟩ ⟨j.val, h.2⟩) else z (ix2 r j)

theorem read_block (v : View sig .tc .vmem S3072x256 .f32) (g : v.ty.Contents (Elt Ideal))
    (u : S3000x200.Idx → EReal) (p q : S3072x1.Idx → EReal) (z : S3072x256.Idx → EReal) (r : Fin 3072) (j : Fin 256)
    (b₁ : ∀ a, (![0, 201] : Fin 2 → ℕ) a + (![3072, 1] : Fin 2 → ℕ) a ≤ S3072x256.size a)
    (b₂ : ∀ a, (![0, 200] : Fin 2 → ℕ) a + (![3072, 1] : Fin 2 → ℕ) a ≤ S3072x256.size a)
    (b₃ : ∀ a, (![0, 0] : Fin 2 → ℕ) a + (![3000, 200] : Fin 2 → ℕ) a ≤ S3072x256.size a)
    (b₄ : ∀ a, (![0, 0] : Fin 2 → ℕ) a + (![3072, 256] : Fin 2 → ℕ) a ≤ S3072x256.size a) :
    v.read (Elt Ideal) (v.writes (Elt Ideal) g [⟨Rect.unit ![0, 201] ![3072, 1] b₁, q⟩, ⟨Rect.unit ![0, 200] ![3072, 1] b₂, p⟩,
      ⟨Rect.unit ![0, 0] ![3000, 200] b₃, u⟩, ⟨Rect.unit ![0, 0] ![3072, 256] b₄, z⟩]) (ix2 r j) = block u p q z r j := by
  unfold block
  split_ifs with h₁ h₂ h₃
  · exact View.read_writes_cons_unit_of_mem v g b₁ q _ _ (ix2 r 0) rfl fun a => by fin_cases a <;> simp [ix2, h₁]
  all_goals refine (View.read_writes_cons_unit_of_not_mem v g b₁ q _ _ rfl 1 (by simp [ix2]; omega)).trans ?_
  · exact View.read_writes_cons_unit_of_mem v g b₂ p _ _ (ix2 r 0) rfl fun a => by fin_cases a <;> simp [ix2, h₂]
  all_goals refine (View.read_writes_cons_unit_of_not_mem v g b₂ p _ _ rfl 1 (by simp [ix2]; omega)).trans ?_
  · exact View.read_writes_cons_unit_of_mem v g b₃ u _ _ (ix2 ⟨r.val, h₃.1⟩ ⟨j.val, h₃.2⟩) rfl fun a => by
      fin_cases a <;> simp [ix2]
  · refine Eq.trans ?_ (View.read_writes_cons_unit_of_mem v g b₄ z [] (ix2 r j) (ix2 r j) rfl fun a => by fin_cases a <;> simp [ix2])
    by_cases h : r.val < 3000
    · exact View.read_writes_cons_unit_of_not_mem v g b₃ u _ _ rfl 1 (by simp [ix2]; omega)
    · exact View.read_writes_cons_unit_of_not_mem v g b₃ u _ _ rfl 0 (by simp [ix2]; omega)

theorem whole_block (x : Vec Ideal S3000x200 .f32) (inb : ∀ a, (![0, 0] : Fin 2 → ℕ) a + (![3000, 200] : Fin 2 → ℕ) a ≤ S3000x200.size a) :
    View.ld x (Rect.unit ![0, 0] ![3000, 200] inb) = x :=
  View.ld_unit_zero (funext fun a => by fin_cases a <;> rfl) inb x

section Point
variable (c : Dev nD) (i : grid0.Coords)
  {arg1 : Memref sig .tc .vmem S3000x200 .f32} {harg1 : arg1.IsWhole}
  {arg2 : Memref sig .tc .vmem S3000x200 .f32} {harg2 : arg2.IsWhole}
  {arg3 : Memref sig .tc .vmem S3072x256 .f32} {harg3 : arg3.IsWhole}
  {arg4 : Memref sig .tc .vmem S3072x256 .f32} {harg4 : arg4.IsWhole}
  (x0 x1 : Vec Ideal S3000x200 .f32) (r : Fin 3072) (j : Fin 256)

theorem first : out0_A_2 c i arg1 harg1 arg2 harg2 arg3 harg3 arg4 harg4 x0 x1 (ix2 r j)
    = block (k0_pay3 x0) (k0_pay1 (F := Ideal)) (k0_pay2 (F := Ideal)) (k0_pay4 (F := Ideal)) r j := by
  unfold out0_A_2 kernelRun0_A
  dsimp only
  sl_unfold_words
  simp only [View.readAt_eq_ld, harg1.read_unread, harg2.read_unread, whole_block]
  exact read_block ..

theorem second : out0_A_3 c i arg1 harg1 arg2 harg2 arg3 harg3 arg4 harg4 x0 x1 (ix2 r j)
    = block (k0_pay5 x1) (k0_pay2 (F := Ideal)) (k0_pay1 (F := Ideal)) (k0_pay6 (F := Ideal)) r j := by
  unfold out0_A_3 kernelRun0_A
  dsimp only
  sl_unfold_words
  simp only [View.readAt_eq_ld, harg1.read_unread, harg2.read_unread, whole_block]
  exact read_block ..

end Point

/-- The length of a row of a block. -/
def over (x : Vec Ideal S3000x200 .f32) (r : Fin 3000) (j : Fin 200) : EReal :=
  Ideal.div (x (ix2 r j)) (max (Ideal.sqrt (∑ l : Fin 200, x (ix2 r l) * x (ix2 r l))) eps)

theorem pay3_apply (x : Vec Ideal S3000x200 .f32) (r : Fin 3000) (j : Fin 200) : k0_pay3 x (ix2 r j) = over x r j := by
  pointwise [k0_pay3]
  rfl

theorem pay5_apply (x : Vec Ideal S3000x200 .f32) (r : Fin 3000) (j : Fin 200) : k0_pay5 x (ix2 r j) = over x r j := by
  pointwise [k0_pay5]
  rfl

theorem pay4_apply (r : Fin 3072) (j : Fin 256) : k0_pay4 (F := Ideal) (ix2 r j) = (0 : EReal) := by
  pointwise [k0_pay4]

theorem pay6_apply (r : Fin 3072) (j : Fin 256) : k0_pay6 (F := Ideal) (ix2 r j) = (0 : EReal) := by
  pointwise [k0_pay6]

theorem pay2_apply (r : Fin 3072) : k0_pay2 (F := Ideal) (ix2 r 0) = (1 : EReal) := by
  pointwise [k0_pay2]

theorem sge (r : Fin 3072) : IntOp.cmpi .sge (BitVec.ofNat 32 r.val) 3000#32 = if r.val < 3000 then 0#1 else 1#1 := by
  revert r
  decide +kernel

theorem pay1_apply (r : Fin 3072) : k0_pay1 (F := Ideal) (ix2 r 0) = if r.val < 3000 then (0 : EReal) else low := by
  pointwise [k0_pay1]
  rw [sge]
  split_ifs <;> rfl

theorem at_point : ∀ t : Fin cfg0.N, win0_0.index t = ![t.val, 0] ∧ win0_1.index t = ![t.val, 0]
    ∧ win0_2.index t = ![t.val, 0] ∧ win0_3.index t = ![t.val, 0] := by decide +kernel

theorem at_0 (t : Fin cfg0.N) : win0_0.index t = ![t.val, 0] := (at_point t).1
theorem at_1 (t : Fin cfg0.N) : win0_1.index t = ![t.val, 0] := (at_point t).2.1
theorem at_2 (t : Fin cfg0.N) : win0_2.index t = ![t.val, 0] := (at_point t).2.2.1
theorem at_3 (t : Fin cfg0.N) : win0_3.index t = ![t.val, 0] := (at_point t).2.2.2

/-- A block whose rows are the table's, at its place in the padded table. -/
theorem block_spread (x : Cert.Sim.Table) (b : Vec Ideal S3000x200 .f32) (t : ℕ) (ht : t < 5)
    (hb : ∀ (r : Fin 3000) (l : Fin 200), b (ix2 r l) = x (ix2 ⟨t * 3000 + r.val, by omega⟩ l))
    (u : S3000x200.Idx → EReal) (hu : ∀ r l, u (ix2 r l) = over b r l)
    (p q : S3072x1.Idx → EReal) (z : S3072x256.Idx → EReal) (hz : ∀ r j, z (ix2 r j) = 0)
    (r : Fin 3072) (j : Fin 256) (n : Fin 15360) (hn : n.val = t * 3072 + r.val) :
    block u p q z r j = spread x (p (ix2 r 0)) (q (ix2 r 0)) n j := by
  have hv : Valid n.val ↔ r.val < 3000 := by unfold Valid; omega
  unfold block spread
  split_ifs with h₁ h₂ h₃ h₄ h₄
  · rfl
  · rfl
  · rw [hu]
    have e : (⟨back n.val, back_lt n.isLt h₄.1⟩ : Fin 15000) = ⟨t * 3000 + r.val, by omega⟩ := Fin.ext (by simp only [back]; omega)
    rw [e]
    simp only [over, unit, hb]
  · exact absurd ⟨hv.mpr h₃.1, h₃.2⟩ h₄
  · exact absurd ⟨hv.mp h₄.1, h₄.2⟩ h₃
  · exact hz r j

theorem mark_block (t : ℕ) (r : Fin 3072) (n : ℕ) (hn : n = t * 3072 + r.val) :
    k0_pay1 (F := Ideal) (ix2 r 0) = Cert.Sim.mark n := by
  rw [pay1_apply, Cert.Sim.mark]
  exact if_congr (by unfold Valid; omega) rfl rfl

section Arrays
variable (V : (c : Dev nD) → (b : Ref sig .tc) → Buf (Elt Ideal) ((c : Thread nD τ).loc b)) (c : Dev nD)

def tableX (x : Cert.Sim.Table) (i : S15360x256.Idx) : EReal := spread x (Cert.Sim.mark (i 0).val) 1 (i 0) (i 1)
def tableY (y : Cert.Sim.Table) (i : S15360x256.Idx) : EReal := spread y 1 (Cert.Sim.mark (i 0).val) (i 0) (i 1)

theorem rows_x (t : Fin cfg0.N) (ht : t.val < 5) (r : Fin 3000) (l : Fin 200) :
    iblk0 (F := Ideal) V c 0 t (ix2 r l) = V c main_arg0 (ix2 ⟨t.val * 3000 + r.val, by omega⟩ l) := by
  blk_simp [iblk0, at_0]
  refine congrArg (V c main_arg0) ?_
  blk_ext [at_0]

theorem rows_y (t : Fin cfg0.N) (ht : t.val < 5) (r : Fin 3000) (l : Fin 200) :
    iblk0 (F := Ideal) V c 1 t (ix2 r l) = V c main_arg1 (ix2 ⟨t.val * 3000 + r.val, by omega⟩ l) := by
  blk_simp [iblk0, at_1]
  refine congrArg (V c main_arg1) ?_
  blk_ext [at_1]

theorem table_x : (dat0 (F := Ideal) V c).arrAt 2 cfg0.N
    = (tableX (V c main_arg0) : Buf (Elt Ideal) ((c : Thread nD τ).loc main_v0_0)) := by
  refine (dat0 V c).arrAt_eq_of_covers 2 _ (by decide +kernel) fun t hf y => ?_
  blk_simp
  rw [after0_2]
  unfold outsAt0
  change S3072x256.Idx at y
  idx_vars y
  have ht : t.val < 5 := t.isLt
  refine (first c ..).trans ?_
  refine (block_spread (V c main_arg0) (iblk0 V c 0 t) t.val ht (rows_x V c t ht) _ (pay3_apply _) _ _ _ pay4_apply y0 y1
    ⟨t.val * 3072 + y0.val, by omega⟩ rfl).trans ?_
  rw [mark_block t.val y0 _ rfl, pay2_apply]
  refine (show _ = tableX (V c main_arg0) (ix2 ⟨t.val * 3072 + y0.val, by omega⟩ y1) from rfl).trans ?_
  refine congrArg (tableX (V c main_arg0)) ?_
  blk_ext [at_2]

theorem table_y : (dat0 (F := Ideal) V c).arrAt 3 cfg0.N
    = (tableY (V c main_arg1) : Buf (Elt Ideal) ((c : Thread nD τ).loc main_v0_1)) := by
  refine (dat0 V c).arrAt_eq_of_covers 3 _ (by decide +kernel) fun t hf y => ?_
  blk_simp
  rw [after0_3]
  unfold outsAt0
  change S3072x256.Idx at y
  idx_vars y
  have ht : t.val < 5 := t.isLt
  refine (second c ..).trans ?_
  refine (block_spread (V c main_arg1) (iblk0 V c 1 t) t.val ht (rows_y V c t ht) _ (pay5_apply _) _ _ _ pay6_apply y0 y1
    ⟨t.val * 3072 + y0.val, by omega⟩ rfl).trans ?_
  rw [mark_block t.val y0 _ rfl, pay2_apply]
  refine (show _ = tableY (V c main_arg1) (ix2 ⟨t.val * 3072 + y0.val, by omega⟩ y1) from rfl).trans ?_
  refine congrArg (tableY (V c main_arg1)) ?_
  blk_ext [at_3]

end Arrays

end Cert.Region0

end
-- ==== Proof.Reads.lean ====
/- The vector expressions the search kernel's payloads are built from, each read at an index with its operands left as
   variables: both sides of the kernel use them. -/
module

public import proofs.«01_k».proof.Proof.Weights

@[expose] public section

set_option maxRecDepth 16384

noncomputable section

namespace Cert.Pay

open Idealize.ShloMosaic Cert.KernelIdeal Cert.KernelIdeal.Gen Cert.Top2 Cert.Tile
open scoped BigOperators

variable [Facts]

theorem mark_read (s x : FVec Ideal S1024x1024 .f32) (i : S1024x1024.Idx) {m : EReal} {a : Fin 1024 → EReal} {j : Fin 1024}
    (hx : x i = m) (hs : s i = a j) :
    select (cmpf .oge s x) (broadcast S1024x1024 (Scalar.ofBits .f32 0x3F800000#32 : Ideal .f32))
      (broadcast S1024x1024 (Scalar.ofBits .f32 0x00000000#32 : Ideal .f32)) i = mark m a j := by
  rw [lit_one, lit_zero]
  pointwise [hx, hs]
  rfl

theorem rest_read (s m : FVec Ideal S1024x1024 .f32) (i : S1024x1024.Idx) {a : Fin 1024 → EReal} {j : Fin 1024}
    (hm : m i = mark (top a) a j) (hs : s i = a j) :
    subf s (mulf m (broadcast S1024x1024 (Scalar.ofBits .f32 0x749DC5AE#32 : Ideal .f32))) i = rest a j := by
  rw [lit_big]
  pointwise [hm, hs]
  rfl

theorem across (v : FVec Ideal S1024x1 .f32) (n j : Fin 1024) :
    broadcastTo S1024x1024 v broadcasts_S1024x1_S1024x1024 (ix2 n j) = v (ix2 n 0) := by pointwise

theorem down (v : FVec Ideal S1x1024 .f32) (n j : Fin 1024) :
    broadcastTo S1024x1024 v broadcasts_S1x1024_S1024x1024 (ix2 j n) = v (ix2 0 n) := by pointwise

theorem top_across (x : FVec Ideal S1024x1024 .f32) (n : Fin 1024) {a : Fin 1024 → EReal} (h : ∀ j, x (ix2 n j) = a j) :
    shapeCast S1024x1 (multiReduction .maximumf [1] S1024 x 0xFF800000#32 reduces_S1024x1024_S1024 (.inl rfl) rfl)
      shapeCasts_S1024_S1024x1 (ix2 n 0) = top a := by
  pointwise [h]
  exact fold_max _

theorem top_down (x : FVec Ideal S1024x1024 .f32) (n : Fin 1024) {a : Fin 1024 → EReal} (h : ∀ j, x (ix2 j n) = a j) :
    shapeCast S1x1024 (multiReduction .maximumf [0] S1024 x 0xFF800000#32 reduces_S1024x1024_S1024_2 (.inl rfl) rfl)
      shapeCasts_S1024_S1x1024 (ix2 0 n) = top a := by
  pointwise [h]
  exact fold_max _

theorem stat_across (w : FVec Ideal S7x1024 .f32) (m : FVec Ideal S1024x1024 .f32) (n : Fin 1024) {mk : Fin 1024 → EReal}
    (hw : ∀ r j, w (ix2 r j) = (((weight r j : ℤ) : ℝ) : EReal)) (hm : ∀ j, m (ix2 n j) = mk j) (r : Fin 7) :
    matmul dot_S7x1024_S1024x1024_S7x1024_1_1_0_0_n_n none w m (constant S7x1024 .f32 0x00000000#32) (ix2 r n)
      = stat mk r := by
  pointwise [hm, hw]
  rfl

theorem stat_down (w : FVec Ideal S7x1024 .f32) (m : FVec Ideal S1024x1024 .f32) (n : Fin 1024) {mk : Fin 1024 → EReal}
    (hw : ∀ r j, w (ix2 r j) = (((weight r j : ℤ) : ℝ) : EReal)) (hm : ∀ j, m (ix2 j n) = mk j) (r : Fin 7) :
    matmul dot_S7x1024_S1024x1024_S7x1024_1_0_0_1_n_n none w m (constant S7x1024 .f32 0x00000000#32) (ix2 r n)
      = stat mk r := by
  pointwise [hm, hw]
  rfl

section Stats
variable (x : FVec Ideal S7x1024 .f32) (n : Fin 1024) {mk : Fin 1024 → EReal} (h : ∀ r, x (ix2 r n) = stat mk r)
include h

theorem pos_read :
    addf (extractStridedSlice S1x1024 ![0, 0] x slices_S7x1024_o0_0_S1x1024)
      (extractStridedSlice S1x1024 ![1, 0] x slices_S7x1024_o1_0_S1x1024) (ix2 0 n) = pos mk := by
  pointwise [h]
  rfl

theorem cnt_read : extractStridedSlice S1x1024 ![2, 0] x slices_S7x1024_o2_0_S1x1024 (ix2 0 n) = cnt mk := by
  pointwise [h]
  rfl

theorem sqs_read :
    addf (addf (addf (extractStridedSlice S1x1024 ![3, 0] x slices_S7x1024_o3_0_S1x1024)
      (extractStridedSlice S1x1024 ![4, 0] x slices_S7x1024_o4_0_S1x1024))
      (extractStridedSlice S1x1024 ![5, 0] x slices_S7x1024_o5_0_S1x1024))
      (extractStridedSlice S1x1024 ![6, 0] x slices_S7x1024_o6_0_S1x1024) (ix2 0 n) = sqs mk := by
  pointwise [h]
  rfl

end Stats

section Scalars
variable (p q : FVec Ideal S1x1024 .f32) (i : S1x1024.Idx) {mk : Fin 1024 → EReal}

theorem gap_read (hp : p i = pos mk) (hq : q i = sqs mk) :
    subf (mulf (broadcast S1x1024 (Scalar.ofBits .f32 0x40000000#32 : Ideal .f32)) q) (mulf p p) i
      = ((2 : ℝ) : EReal) * sqs mk - pos mk * pos mk := by
  rw [lit_two]
  pointwise [hp, hq]

theorem disc_read (hp : p i = ((2 : ℝ) : EReal) * sqs mk - pos mk * pos mk) :
    sqrt (maximumf p (broadcast S1x1024 (Scalar.ofBits .f32 0x00000000#32 : Ideal .f32))) i = disc mk := by
  rw [lit_zero]
  pointwise [hp]
  rfl

theorem low_read (c d : FVec Ideal S1x1024 .f32) (hp : p i = pos mk) (hc : c i = cnt mk) (hd : d i = disc mk) :
    select (cmpf .olt c (broadcast S1x1024 (Scalar.ofBits .f32 0x3FC00000#32 : Ideal .f32))) p
      (mulf (subf p d) (broadcast S1x1024 (Scalar.ofBits .f32 0x3F000000#32 : Ideal .f32))) i = lowPos mk := by
  rw [lit_three_halves, lit_half]
  pointwise [hp, hc, hd]
  rfl

theorem high_read (d : FVec Ideal S1x1024 .f32) (hp : p i = pos mk) (hd : d i = disc mk) :
    mulf (addf p d) (broadcast S1x1024 (Scalar.ofBits .f32 0x3F000000#32 : Ideal .f32)) i = highPos mk := by
  rw [lit_half]
  pointwise [hp, hd]
  rfl

theorem choice_read (c a b : FVec Ideal S1x1024 .f32) {u v : EReal} (hc : c i = cnt mk) (ha : a i = u) (hb : b i = v) :
    select (cmpf .ogt c (broadcast S1x1024 (Scalar.ofBits .f32 0x3FC00000#32 : Ideal .f32))) a b i
      = if ((3 / 2 : ℝ) : EReal) < cnt mk then u else v := by
  rw [lit_three_halves]
  pointwise [ha, hb, hc]

theorem word_read (k : ℕ) {u : EReal} (hp : p i = u) :
    addi (fptosi 32 p) (broadcast S1x1024 (Scalar.muli (BitVec.ofNat 32 k) 1024#32)) i
      = Ideal.fptosi 32 u + BitVec.ofNat 32 (k * 1024) := by
  rw [BitVec.ofNat_mul]
  pointwise [hp]
  rfl

end Scalars

/-- One value of a running pair's first entry, and of its second: the merge of two candidates, at an index. -/
theorem merge_read (o₁ o₂ c₁ c₂ : FVec Ideal S1x1024 .f32) (u₁ u₂ w₁ w₂ : IVec S1x1024 32) (i : S1x1024.Idx) :
    (⟨select (cmpf .ogt c₂ (select (cmpf .ogt c₁ o₁) c₁ o₁)) c₂ (select (cmpf .ogt c₁ o₁) c₁ o₁) i,
      select (cmpf .ogt c₂ (select (cmpf .ogt c₁ o₁) c₁ o₁)) w₂ (select (cmpf .ogt c₁ o₁) w₁ u₁) i,
      select (cmpf .ogt c₂ (select (cmpf .ogt c₁ o₁) c₁ o₁)) (select (cmpf .ogt c₁ o₁) c₁ o₁)
        (select (cmpf .ogt c₂ (select (cmpf .ogt c₁ o₁) o₁ (select (cmpf .ogt c₁ o₂) c₁ o₂))) c₂
          (select (cmpf .ogt c₁ o₁) o₁ (select (cmpf .ogt c₁ o₂) c₁ o₂))) i,
      select (cmpf .ogt c₂ (select (cmpf .ogt c₁ o₁) c₁ o₁)) (select (cmpf .ogt c₁ o₁) w₁ u₁)
        (select (cmpf .ogt c₂ (select (cmpf .ogt c₁ o₁) o₁ (select (cmpf .ogt c₁ o₂) c₁ o₂))) w₂
          (select (cmpf .ogt c₁ o₁) u₁ (select (cmpf .ogt c₁ o₂) w₁ u₂))) i⟩ : St)
      = St.add ⟨o₁ i, u₁ i, o₂ i, u₂ i⟩ ⟨c₁ i, w₁ i, c₂ i, w₂ i⟩ := by
  refine St.ext ?_ ?_ ?_ ?_
  · pointwise
    rw [St.add_v₁]
  · pointwise
    rw [St.add_i₁]
  · pointwise
    rw [St.add_v₂]
  · pointwise
    rw [St.add_i₂]

/-- A reshape to the same shape changes nothing. -/
theorem cast_self {α : Type} (v : S1x1024.Idx → α) : shapeCast S1x1024 v shapeCasts_S1x1024_S1x1024 = v := by
  funext i
  idx_vars i
  pointwise

end Cert.Pay

end
-- ==== Proof.PayX.lean ====
/- The first side of the search kernel, read at a column: what its four stores write there, from the tile's row. -/
module

public import proofs.«01_k».proof.Proof.Reads

@[expose] public section

set_option maxRecDepth 16384

noncomputable section

namespace Cert.Pay.First

open Idealize.ShloMosaic Cert.KernelIdeal Cert.KernelIdeal.Gen Cert.Top2 Cert.Tile Cert.Pay
open scoped BigOperators

variable [Facts]

section Words
variable (k : ℕ) {v59 v60 v71 v72 v79 v83 v84 : FVec Ideal S1x1024 .f32} {i : S1x1024.Idx} {a b : Fin 1024 → EReal}

theorem first_word (hp : v59 i = pos a) (hc : v60 i = cnt a) (hd : k1_pay28 v83 v84 i = disc a) :
    k1_pay32 (BitVec.ofNat 32 k) v59 v60 v83 v84 i = Ideal.fptosi 32 (lowPos a) + BitVec.ofNat 32 (k * 1024) := by
  unfold k1_pay32
  exact word_read _ _ k (low_read _ _ _ _ hp hc hd)

theorem second_word (hp : v59 i = pos a) (hc : v60 i = cnt a) (hd : k1_pay28 v83 v84 i = disc a)
    (hq : v71 i = pos b) (hn : v72 i = cnt b) (hs : v79 i = sqs b) :
    k1_pay33 (BitVec.ofNat 32 k) v59 v60 v71 v72 v79 v83 v84 i
      = Ideal.fptosi 32 (if ((3 / 2 : ℝ) : EReal) < cnt a then highPos a else lowPos b) + BitVec.ofNat 32 (k * 1024) := by
  unfold k1_pay33
  exact word_read _ _ k (choice_read _ _ _ _ hc (high_read _ _ _ hp hd)
    (low_read _ _ _ _ hq hn (disc_read _ _ (gap_read _ _ _ hq hs))))

end Words

section Rows
variable (s : FVec Ideal S1024x1024 .f32) (n : Fin 1024)

/-- The marks of the row's largest values, and of the largest of the others. -/
abbrev mk₁ : Fin 1024 → EReal := mark (top (row s n)) (row s n)
abbrev mk₂ : Fin 1024 → EReal := mark (top (rest (row s n))) (rest (row s n))

/-- The printed statistics of the two marks. -/
def st₁ : FVec Ideal S7x1024 .f32 := k1_pay19 s k1_pay6 k1_pay7 k1_pay8 k1_pay9 k1_pay10 k1_pay11 k1_pay12 k1_pay13
def st₂ : FVec Ideal S7x1024 .f32 := k1_pay22 s k1_pay6 k1_pay7 k1_pay8 k1_pay9 k1_pay10 k1_pay11 k1_pay12 k1_pay13

theorem pay15_apply : k1_pay15 (F := Ideal) s (ix2 n 0) = top (row s n) := top_across s n fun _ => rfl

theorem pay16_apply (j : Fin 1024) : k1_pay16 (F := Ideal) s (ix2 n j) = mk₁ s n j :=
  mark_read s _ _ ((across _ n j).trans (pay15_apply s n)) rfl

theorem pay17_apply (j : Fin 1024) : k1_pay17 (F := Ideal) s (ix2 n j) = rest (row s n) j :=
  rest_read s _ _ (pay16_apply s n j) rfl

theorem pay18_apply : k1_pay18 (F := Ideal) s (ix2 n 0) = top (rest (row s n)) := top_across _ n (pay17_apply s n)

theorem st₁_apply (r : Fin 7) : st₁ s (ix2 r n) = stat (mk₁ s n) r :=
  stat_across _ _ n wts_apply (pay16_apply s n) r

theorem st₂_apply (r : Fin 7) : st₂ s (ix2 r n) = stat (mk₂ s n) r :=
  stat_across _ _ n wts_apply (fun j => mark_read _ _ _ ((across _ n j).trans (pay18_apply s n)) (pay17_apply s n j)) r

/-- The two candidates' values and words, as the first side computes them. -/
def c₁ : FVec Ideal S1x1024 .f32 := k1_pay29 (k1_pay15 s)
def c₂ : FVec Ideal S1x1024 .f32 := k1_pay31 (k1_pay15 s) (k1_pay18 s) (k1_pay21 s k1_pay6 k1_pay7 k1_pay8 k1_pay9 k1_pay10 k1_pay11 k1_pay12 k1_pay13)
def w₁ (k : ℕ) : IVec S1x1024 32 :=
  k1_pay32 (BitVec.ofNat 32 k) (k1_pay20 s k1_pay6 k1_pay7 k1_pay8 k1_pay9 k1_pay10 k1_pay11 k1_pay12 k1_pay13) (k1_pay21 s k1_pay6 k1_pay7 k1_pay8 k1_pay9 k1_pay10 k1_pay11 k1_pay12 k1_pay13) (k1_pay26 s k1_pay6 k1_pay7 k1_pay8 k1_pay9 k1_pay10 k1_pay11 k1_pay12 k1_pay13) k1_pay27
def w₂ (k : ℕ) : IVec S1x1024 32 :=
  k1_pay33 (BitVec.ofNat 32 k) (k1_pay20 s k1_pay6 k1_pay7 k1_pay8 k1_pay9 k1_pay10 k1_pay11 k1_pay12 k1_pay13) (k1_pay21 s k1_pay6 k1_pay7 k1_pay8 k1_pay9 k1_pay10 k1_pay11 k1_pay12 k1_pay13) (k1_pay23 s k1_pay6 k1_pay7 k1_pay8 k1_pay9 k1_pay10 k1_pay11 k1_pay12 k1_pay13) (k1_pay24 s k1_pay6 k1_pay7 k1_pay8 k1_pay9 k1_pay10 k1_pay11 k1_pay12 k1_pay13) (k1_pay25 s k1_pay6 k1_pay7 k1_pay8 k1_pay9 k1_pay10 k1_pay11 k1_pay12 k1_pay13)
    (k1_pay26 s k1_pay6 k1_pay7 k1_pay8 k1_pay9 k1_pay10 k1_pay11 k1_pay12 k1_pay13) k1_pay27

theorem pos₁ : k1_pay20 (F := Ideal) s k1_pay6 k1_pay7 k1_pay8 k1_pay9 k1_pay10 k1_pay11 k1_pay12 k1_pay13 (ix2 0 n) = pos (mk₁ s n) := pos_read (st₁ s) n (st₁_apply s n)
theorem cnt₁ : k1_pay21 (F := Ideal) s k1_pay6 k1_pay7 k1_pay8 k1_pay9 k1_pay10 k1_pay11 k1_pay12 k1_pay13 (ix2 0 n) = cnt (mk₁ s n) := cnt_read (st₁ s) n (st₁_apply s n)
theorem pos₂ : k1_pay23 (F := Ideal) s k1_pay6 k1_pay7 k1_pay8 k1_pay9 k1_pay10 k1_pay11 k1_pay12 k1_pay13 (ix2 0 n) = pos (mk₂ s n) := pos_read (st₂ s) n (st₂_apply s n)
theorem cnt₂ : k1_pay24 (F := Ideal) s k1_pay6 k1_pay7 k1_pay8 k1_pay9 k1_pay10 k1_pay11 k1_pay12 k1_pay13 (ix2 0 n) = cnt (mk₂ s n) := cnt_read (st₂ s) n (st₂_apply s n)
theorem sqs₂ : k1_pay25 (F := Ideal) s k1_pay6 k1_pay7 k1_pay8 k1_pay9 k1_pay10 k1_pay11 k1_pay12 k1_pay13 (ix2 0 n) = sqs (mk₂ s n) := sqs_read (st₂ s) n (st₂_apply s n)

theorem disc₁ : k1_pay28 (F := Ideal) (k1_pay26 s k1_pay6 k1_pay7 k1_pay8 k1_pay9 k1_pay10 k1_pay11 k1_pay12 k1_pay13) k1_pay27 (ix2 0 n) = disc (mk₁ s n) :=
  disc_read _ _ (gap_read _ _ _ (pos₁ s n) (sqs_read (st₁ s) n (st₁_apply s n)))

theorem turned (v : FVec Ideal S1024x1 .f32) : k1_pay29 v (ix2 0 n) = v (ix2 n 0) := by pointwise [k1_pay29]

theorem word₁ (k : ℕ) : w₁ s k (ix2 0 n)
    = Ideal.fptosi 32 (lowPos (mk₁ s n)) + BitVec.ofNat 32 (k * 1024) := by
  unfold w₁
  exact first_word k (pos₁ s n) (cnt₁ s n) (disc₁ s n)

theorem word₂ (k : ℕ) : w₂ s k (ix2 0 n)
    = Ideal.fptosi 32 (if ((3 / 2 : ℝ) : EReal) < cnt (mk₁ s n) then highPos (mk₁ s n) else lowPos (mk₂ s n))
      + BitVec.ofNat 32 (k * 1024) := by
  unfold w₂
  exact second_word k (pos₁ s n) (cnt₁ s n) (disc₁ s n) (pos₂ s n) (cnt₂ s n) (sqs₂ s n)

theorem val₁ : c₁ s (ix2 0 n) = top (row s n) := by
  unfold c₁
  exact (turned n _).trans (pay15_apply s n)

theorem val₂ : c₂ s (ix2 0 n)
    = if ((3 / 2 : ℝ) : EReal) < cnt (mk₁ s n) then top (row s n) else top (rest (row s n)) := by
  unfold c₂
  exact choice_read _ _ _ _ (cnt₁ s n) ((turned n _).trans (pay15_apply s n)) ((turned n _).trans (pay18_apply s n))

theorem cand_eq (k : ℕ) :
    (⟨c₁ s (ix2 0 n), w₁ s k (ix2 0 n), c₂ s (ix2 0 n), w₂ s k (ix2 0 n)⟩ : St)
      = cand (row s n) (BitVec.ofNat 32 (k * 1024)) := by
  rw [word₁, word₂, val₁, val₂]
  rfl

end Rows

/-- The four stores at a column: the candidates enter the running pair. -/
theorem merge {v109 v113 : FVec Ideal S1x1024 .f32} {v119 v122 : IVec S1x1024 32}
    (v125 v131 : Vec Ideal S1x1024 .f32) (v128 v134 : Vec Ideal S1x1024 .i32) (i : S1x1024.Idx) :
    (⟨k1_pay46 v109 v113 (k1_pay34 v125) i, k1_pay47 v109 v113 v119 v122 (k1_pay34 v125) (k1_pay35 v128) i,
      k1_pay44 v109 v113 (k1_pay34 v125) v131 i,
      k1_pay45 v109 v113 v119 v122 (k1_pay34 v125) (k1_pay35 v128) v131 v134 i⟩ : St)
      = St.add ⟨v125 i, v128 i, v131 i, v134 i⟩ ⟨v109 i, v119 i, v113 i, v122 i⟩ := by
  simp only [k1_pay34, k1_pay35, k1_pay36, k1_pay37, k1_pay38, k1_pay39, k1_pay40, k1_pay41, k1_pay42, k1_pay43, k1_pay44,
    k1_pay45, k1_pay46, k1_pay47, cast_self]
  exact merge_read v125 v131 v109 v113 v128 v134 v119 v122 i

theorem stores (s : FVec Ideal S1024x1024 .f32) (n : Fin 1024) (k : ℕ)
    (v125 v131 : Vec Ideal S1x1024 .f32) (v128 v134 : Vec Ideal S1x1024 .i32) :
    (⟨k1_pay46 (c₁ s) (c₂ s) (k1_pay34 v125) (ix2 0 n),
      k1_pay47 (c₁ s) (c₂ s) (w₁ s k) (w₂ s k) (k1_pay34 v125) (k1_pay35 v128) (ix2 0 n),
      k1_pay44 (c₁ s) (c₂ s) (k1_pay34 v125) v131 (ix2 0 n),
      k1_pay45 (c₁ s) (c₂ s) (w₁ s k) (w₂ s k) (k1_pay34 v125) (k1_pay35 v128) v131 v134 (ix2 0 n)⟩ : St)
      = St.add ⟨v125 (ix2 0 n), v128 (ix2 0 n), v131 (ix2 0 n), v134 (ix2 0 n)⟩
          (cand (row s n) (BitVec.ofNat 32 (k * 1024))) := by
  rw [merge, cand_eq]

end Cert.Pay.First

end
-- ==== Proof.PayY.lean ====
/- The second side of the search kernel, read at a column: what its four stores write there, from the tile's column. -/
module

public import proofs.«01_k».proof.Proof.Reads

@[expose] public section

set_option maxRecDepth 16384

noncomputable section

namespace Cert.Pay.Second

open Idealize.ShloMosaic Cert.KernelIdeal Cert.KernelIdeal.Gen Cert.Top2 Cert.Tile Cert.Pay
open scoped BigOperators

variable [Facts]

section Words
variable (k : ℕ) {v181 v192 v193 v213 v216 v223 : FVec Ideal S1x1024 .f32} {i : S1x1024.Idx} {a b : Fin 1024 → EReal}

theorem first_word (h : v213 i = lowPos a) :
    k1_pay67 (BitVec.ofNat 32 k) v213 i = Ideal.fptosi 32 (lowPos a) + BitVec.ofNat 32 (k * 1024) := by
  unfold k1_pay67
  exact word_read _ _ k h

theorem second_word (hc : v181 i = cnt a) (hh : v216 i = highPos a)
    (hq : v192 i = pos b) (hn : v193 i = cnt b) (hd : v223 i = disc b) :
    k1_pay68 (BitVec.ofNat 32 k) v181 v192 v193 v216 v223 k1_pay64 i
      = Ideal.fptosi 32 (if ((3 / 2 : ℝ) : EReal) < cnt a then highPos a else lowPos b) + BitVec.ofNat 32 (k * 1024) := by
  unfold k1_pay68
  exact word_read _ _ k (choice_read _ _ _ _ hc hh (low_read _ _ _ _ hq hn hd))

end Words

section Cols
variable (s : FVec Ideal S1024x1024 .f32) (n : Fin 1024)

/-- The marks of the column's largest values, and of the largest of the others. -/
abbrev mk₁ : Fin 1024 → EReal := mark (top (col s n)) (col s n)
abbrev mk₂ : Fin 1024 → EReal := mark (top (rest (col s n))) (rest (col s n))

/-- The printed statistics of the two marks. -/
def st₁ : FVec Ideal S7x1024 .f32 := k1_pay54 wts (k1_pay49 s)
def st₂ : FVec Ideal S7x1024 .f32 := k1_pay57 wts (k1_pay52 s) (Scalar.ofBits .f32 0x00000000#32) k1_pay53

theorem pay48_apply : k1_pay48 (F := Ideal) s (ix2 0 n) = top (col s n) := top_down s n fun _ => rfl

theorem pay49_apply (j : Fin 1024) : k1_pay49 (F := Ideal) s (ix2 j n) = mk₁ s n j :=
  mark_read s _ _ ((down _ n j).trans (pay48_apply s n)) rfl

theorem pay50_apply (j : Fin 1024) : k1_pay50 (F := Ideal) s (ix2 j n) = rest (col s n) j :=
  rest_read s _ _ (pay49_apply s n j) rfl

theorem pay51_apply : k1_pay51 (F := Ideal) s (ix2 0 n) = top (rest (col s n)) := top_down _ n (pay50_apply s n)

theorem st₁_apply (r : Fin 7) : st₁ s (ix2 r n) = stat (mk₁ s n) r :=
  stat_down _ _ n wts_apply (pay49_apply s n) r

theorem st₂_apply (r : Fin 7) : st₂ s (ix2 r n) = stat (mk₂ s n) r :=
  stat_down _ _ n wts_apply (fun j => mark_read _ _ _ ((down _ n j).trans (pay51_apply s n)) (pay50_apply s n j)) r

theorem pos₁ : k1_pay55 (F := Ideal) wts (k1_pay49 s) (ix2 0 n) = pos (mk₁ s n) := pos_read (st₁ s) n (st₁_apply s n)
theorem cnt₁ : k1_pay56 (F := Ideal) wts (k1_pay49 s) (ix2 0 n) = cnt (mk₁ s n) := cnt_read (st₁ s) n (st₁_apply s n)
theorem pos₂ : k1_pay58 (F := Ideal) wts (k1_pay52 s) (Scalar.ofBits .f32 0x00000000#32) k1_pay53 (ix2 0 n) = pos (mk₂ s n) := pos_read (st₂ s) n (st₂_apply s n)
theorem cnt₂ : k1_pay59 (F := Ideal) wts (k1_pay52 s) (Scalar.ofBits .f32 0x00000000#32) k1_pay53 (ix2 0 n) = cnt (mk₂ s n) := cnt_read (st₂ s) n (st₂_apply s n)
theorem disc₁ : k1_pay60 (F := Ideal) wts (k1_pay49 s) (ix2 0 n) = disc (mk₁ s n) :=
  disc_read _ _ (gap_read _ _ _ (pos₁ s n) (sqs_read (st₁ s) n (st₁_apply s n)))
theorem disc₂ : k1_pay63 (F := Ideal) wts (k1_pay52 s) (Scalar.ofBits .f32 0x00000000#32) k1_pay53 (ix2 0 n) = disc (mk₂ s n) :=
  disc_read _ _ (gap_read _ _ _ (pos₂ s n) (sqs_read (st₂ s) n (st₂_apply s n)))

/-- The two candidates' values and words, as the second side computes them. -/
def c₁ : FVec Ideal S1x1024 .f32 := k1_pay48 s
def c₂ : FVec Ideal S1x1024 .f32 := k1_pay66 (k1_pay48 s) (k1_pay51 s) (k1_pay56 wts (k1_pay49 s))
def w₁ (k : ℕ) : IVec S1x1024 32 := k1_pay67 (BitVec.ofNat 32 k) (k1_pay61 (F := Ideal) wts (k1_pay49 s))
def w₂ (k : ℕ) : IVec S1x1024 32 :=
  k1_pay68 (F := Ideal) (BitVec.ofNat 32 k) (k1_pay56 wts (k1_pay49 s)) (k1_pay58 wts (k1_pay52 s) (Scalar.ofBits .f32 0x00000000#32) k1_pay53) (k1_pay59 wts (k1_pay52 s) (Scalar.ofBits .f32 0x00000000#32) k1_pay53)
    (k1_pay62 wts (k1_pay49 s)) (k1_pay63 wts (k1_pay52 s) (Scalar.ofBits .f32 0x00000000#32) k1_pay53) k1_pay64

theorem word₁ (k : ℕ) : w₁ s k (ix2 0 n)
    = Ideal.fptosi 32 (lowPos (mk₁ s n)) + BitVec.ofNat 32 (k * 1024) := by
  unfold w₁
  exact first_word k (low_read _ _ _ _ (pos₁ s n) (cnt₁ s n) (disc₁ s n))

theorem word₂ (k : ℕ) : w₂ s k (ix2 0 n)
    = Ideal.fptosi 32 (if ((3 / 2 : ℝ) : EReal) < cnt (mk₁ s n) then highPos (mk₁ s n) else lowPos (mk₂ s n))
      + BitVec.ofNat 32 (k * 1024) := by
  unfold w₂
  exact second_word k (cnt₁ s n) (high_read _ _ _ (pos₁ s n) (disc₁ s n)) (pos₂ s n) (cnt₂ s n) (disc₂ s n)

theorem val₁ : c₁ s (ix2 0 n) = top (col s n) := by
  unfold c₁
  exact pay48_apply s n

theorem val₂ : c₂ s (ix2 0 n)
    = if ((3 / 2 : ℝ) : EReal) < cnt (mk₁ s n) then top (col s n) else top (rest (col s n)) := by
  unfold c₂
  exact choice_read _ _ _ _ (cnt₁ s n) (pay48_apply s n) (pay51_apply s n)

theorem cand_eq (k : ℕ) :
    (⟨c₁ s (ix2 0 n), w₁ s k (ix2 0 n), c₂ s (ix2 0 n), w₂ s k (ix2 0 n)⟩ : St)
      = cand (col s n) (BitVec.ofNat 32 (k * 1024)) := by
  rw [word₁, word₂, val₁, val₂]
  rfl

end Cols

/-- The four stores at a column: the candidates enter the running pair. -/
theorem merge (b : BitVec 32) {v161 v171 v181 v192 v193 v213 v216 v223 v224 : FVec Ideal S1x1024 .f32}
    (v244 v250 : Vec Ideal S1x1024 .f32) (v247 v253 : Vec Ideal S1x1024 .i32) (i : S1x1024.Idx) :
    (⟨k1_pay81 v161 v171 v181 v244 i, k1_pay82 b v161 v171 v181 v192 v193 v213 v216 v223 v224 v244 v247 i,
      k1_pay79 v161 v171 v181 v244 v250 i,
      k1_pay80 b v161 v171 v181 v192 v193 v213 v216 v223 v224 v244 v247 v250 v253 i⟩ : St)
      = St.add ⟨v244 i, v247 i, v250 i, v253 i⟩
          ⟨v161 i, k1_pay67 b v213 i, k1_pay66 v161 v171 v181 i, k1_pay68 b v181 v192 v193 v216 v223 v224 i⟩ := by
  simp only [k1_pay69, k1_pay70, k1_pay71, k1_pay72, k1_pay73, k1_pay74, k1_pay75, k1_pay76, k1_pay77, k1_pay78, k1_pay79,
    k1_pay80, k1_pay81, k1_pay82, cast_self]
  exact merge_read v244 v250 v161 (k1_pay66 v161 v171 v181) v247 v253 (k1_pay67 b v213)
    (k1_pay68 b v181 v192 v193 v216 v223 v224) i

theorem stores (s : FVec Ideal S1024x1024 .f32) (n : Fin 1024) (k : ℕ)
    (v244 v250 : Vec Ideal S1x1024 .f32) (v247 v253 : Vec Ideal S1x1024 .i32) :
    (⟨k1_pay81 (k1_pay48 s) (k1_pay51 s) (k1_pay56 wts (k1_pay49 s)) v244 (ix2 0 n),
      k1_pay82 (BitVec.ofNat 32 k) (k1_pay48 s) (k1_pay51 s) (k1_pay56 wts (k1_pay49 s)) (k1_pay58 wts (k1_pay52 s) (Scalar.ofBits .f32 0x00000000#32) k1_pay53) (k1_pay59 wts (k1_pay52 s) (Scalar.ofBits .f32 0x00000000#32) k1_pay53)
        (k1_pay61 wts (k1_pay49 s)) (k1_pay62 wts (k1_pay49 s)) (k1_pay63 wts (k1_pay52 s) (Scalar.ofBits .f32 0x00000000#32) k1_pay53) k1_pay64 v244 v247 (ix2 0 n),
      k1_pay79 (k1_pay48 s) (k1_pay51 s) (k1_pay56 wts (k1_pay49 s)) v244 v250 (ix2 0 n),
      k1_pay80 (BitVec.ofNat 32 k) (k1_pay48 s) (k1_pay51 s) (k1_pay56 wts (k1_pay49 s)) (k1_pay58 wts (k1_pay52 s) (Scalar.ofBits .f32 0x00000000#32) k1_pay53) (k1_pay59 wts (k1_pay52 s) (Scalar.ofBits .f32 0x00000000#32) k1_pay53)
        (k1_pay61 wts (k1_pay49 s)) (k1_pay62 wts (k1_pay49 s)) (k1_pay63 wts (k1_pay52 s) (Scalar.ofBits .f32 0x00000000#32) k1_pay53) k1_pay64 v244 v247 v250 v253 (ix2 0 n)⟩ : St)
      = St.add ⟨v244 (ix2 0 n), v247 (ix2 0 n), v250 (ix2 0 n), v253 (ix2 0 n)⟩
          (cand (col s n) (BitVec.ofNat 32 (k * 1024))) :=
  (merge _ _ _ _ _ _).trans (congrArg _ (cand_eq s n k))

end Cert.Pay.Second

end
-- ==== Proof.Steps.lean ====
/- One grid point of the search kernel, read at a column: the running pair of that column either stays, or takes in the
   two candidates of the tile. -/
module

public import proofs.«01_k».proof.Proof.IdealFrame
public import proofs.«01_k».proof.Proof.PayX
public import proofs.«01_k».proof.Proof.PayY
public import Idealize.ShloMosaic.Lib.WritesUnit

@[expose] public section

set_option maxRecDepth 16384

noncomputable section

namespace Cert.Region1

open Idealize.ShloMosaic Idealize.SL.Sem Cert.KernelIdeal Cert.KernelIdeal.Gen Cert.Top2 Cert.Tile Cert.Pay

/-- The running pair two arrays hold at a column. -/
def pair (V : Vec Ideal S2x15360 .f32) (I : Vec Ideal S2x15360 .i32) (m : Fin 15360) : St :=
  ⟨V (ix2 0 m), I (ix2 0 m), V (ix2 1 m), I (ix2 1 m)⟩

section Rows
variable {e : EltTy} (v : View sig .tc .vmem S2x15360 e) (g : v.ty.Contents (Elt Ideal))
  (L : List (View.Piece (Elt Ideal) S2x15360 e)) {o₁ o₂ : Fin 2 → ℕ} {b : ℕ} (h₁ : o₁ = ![0, b]) (h₂ : o₂ = ![1, b])
  (inb₁ : ∀ a, o₁ a + S1x1024.size a ≤ S2x15360.size a) (inb₂ : ∀ a, o₂ a + S1x1024.size a ≤ S2x15360.size a)
  (p q : S1x1024.Idx → Elt Ideal e) (m : Fin 15360)

include h₁ in
theorem load₁ (X : S2x15360.Idx → Elt Ideal e) (n : Fin 1024) (h : b + n.val < 15360) :
    View.ld X (Rect.unit o₁ S1x1024.size inb₁) (ix2 0 n) = X (ix2 0 ⟨b + n.val, h⟩) := by
  subst h₁
  refine congrArg X (funext fun a => Fin.ext ?_)
  fin_cases a <;> simp [ix2, Rect.emb, Rect.unit, LoadRect.idx]

include h₂ in
theorem load₂ (X : S2x15360.Idx → Elt Ideal e) (n : Fin 1024) (h : b + n.val < 15360) :
    View.ld X (Rect.unit o₂ S1x1024.size inb₂) (ix2 0 n) = X (ix2 1 ⟨b + n.val, h⟩) := by
  subst h₂
  refine congrArg X (funext fun a => Fin.ext ?_)
  fin_cases a <;> simp [ix2, Rect.emb, Rect.unit, LoadRect.idx]

include h₁ h₂ in
theorem stored₁ (n : Fin 1024) (h : m.val = b + n.val) :
    v.read (Elt Ideal) (v.writes (Elt Ideal) g (⟨Rect.unit o₂ S1x1024.size inb₂, q⟩ :: ⟨Rect.unit o₁ S1x1024.size inb₁, p⟩ :: L))
      (ix2 0 m) = p (ix2 0 n) :=
  (View.read_writes_cons_unit_of_not_mem v g inb₂ q _ _ h₂ 0 (.inl (by simp [ix2]))).trans
    (View.read_writes_cons_unit_of_mem v g inb₁ p L _ (ix2 0 n) h₁ fun a => by fin_cases a <;> simp [ix2, h])

include h₂ in
theorem stored₂ (n : Fin 1024) (h : m.val = b + n.val) :
    v.read (Elt Ideal) (v.writes (Elt Ideal) g (⟨Rect.unit o₂ S1x1024.size inb₂, q⟩ :: ⟨Rect.unit o₁ S1x1024.size inb₁, p⟩ :: L))
      (ix2 1 m) = q (ix2 0 n) :=
  View.read_writes_cons_unit_of_mem v g inb₂ q _ _ (ix2 0 n) h₂ fun a => by fin_cases a <;> simp [ix2, h]

include h₁ h₂ in
theorem unstored (r : Fin 2) (h : m.val < b ∨ b + 1024 ≤ m.val) :
    v.read (Elt Ideal) (v.writes (Elt Ideal) g (⟨Rect.unit o₂ S1x1024.size inb₂, q⟩ :: ⟨Rect.unit o₁ S1x1024.size inb₁, p⟩ :: L))
      (ix2 r m) = v.read (Elt Ideal) (v.writes (Elt Ideal) g L) (ix2 r m) :=
  (View.read_writes_cons_unit_of_not_mem v g inb₂ q _ _ h₂ 1 (by simpa [ix2] using h)).trans
    (View.read_writes_cons_unit_of_not_mem v g inb₁ p L _ h₁ 1 (by simpa [ix2] using h))

theorem filled (w : S2x15360.Idx → Elt Ideal e) (inb : ∀ a, (![0, 0] : Fin 2 → ℕ) a + (![2, 15360] : Fin 2 → ℕ) a ≤ S2x15360.size a) :
    v.read (Elt Ideal) (v.writes (Elt Ideal) g [⟨Rect.unit ![0, 0] ![2, 15360] inb, w⟩]) = w := by
  funext y
  exact View.read_writes_cons_unit_of_mem v g inb w [] y y rfl fun a => by fin_cases a <;> simp

end Rows

/-- The column of a slice of width 1024 that starts at a given place. -/
abbrev inSlice (b : ℕ) (m : Fin 15360) (h : b ≤ m.val ∧ m.val < b + 1024) : Fin 1024 := ⟨m.val - b, by omega⟩

/-- A column's pair after a point: with the candidates of the tile where the point works on that column. -/
def after (b : ℕ) (c : Fin 1024 → St) (old : St) (m : Fin 15360) : St :=
  if h : b ≤ m.val ∧ m.val < b + 1024 then St.add old (c (inSlice b m h)) else old

section Sides
variable (v : View sig .tc .vmem S2x15360 .f32) (g : v.ty.Contents (Elt Ideal)) (L : List (View.Piece (Elt Ideal) S2x15360 .f32))
  (u : View sig .tc .vmem S2x15360 .i32) (d : u.ty.Contents (Elt Ideal)) (M : List (View.Piece (Elt Ideal) S2x15360 .i32))
  (X : S2x15360.Idx → Elt Ideal .f32) (Y : S2x15360.Idx → Elt Ideal .i32)
  (hX : v.read (Elt Ideal) (v.writes (Elt Ideal) g L) = X) (hY : u.read (Elt Ideal) (u.writes (Elt Ideal) d M) = Y)
  (s : FVec Ideal S1024x1024 .f32) (k : ℕ)
  {o₁ o₂ : Fin 2 → ℕ} {b : ℕ} (h₁ : o₁ = ![0, b]) (h₂ : o₂ = ![1, b])
  (inb₁ : ∀ a, o₁ a + S1x1024.size a ≤ S2x15360.size a) (inb₂ : ∀ a, o₂ a + S1x1024.size a ≤ S2x15360.size a)
  (m : Fin 15360)

include hX hY h₁ h₂

/-- Whatever merge is stored, it is read at the slice's columns, and the old pair elsewhere. -/
theorem merged (p₁ p₂ : S1x1024.Idx → Elt Ideal .f32) (q₁ q₂ : S1x1024.Idx → Elt Ideal .i32) (c : Fin 1024 → St)
    (hpq : ∀ n : Fin 1024, (⟨p₁ (ix2 0 n), q₁ (ix2 0 n), p₂ (ix2 0 n), q₂ (ix2 0 n)⟩ : St)
      = St.add ⟨View.ld X (Rect.unit o₁ S1x1024.size inb₁) (ix2 0 n), View.ld Y (Rect.unit o₁ S1x1024.size inb₁) (ix2 0 n),
          View.ld X (Rect.unit o₂ S1x1024.size inb₂) (ix2 0 n), View.ld Y (Rect.unit o₂ S1x1024.size inb₂) (ix2 0 n)⟩ (c n)) :
    pair (v.read (Elt Ideal) (v.writes (Elt Ideal) g
        (⟨Rect.unit o₂ S1x1024.size inb₂, p₂⟩ :: ⟨Rect.unit o₁ S1x1024.size inb₁, p₁⟩ :: L)))
      (u.read (Elt Ideal) (u.writes (Elt Ideal) d
        (⟨Rect.unit o₂ S1x1024.size inb₂, q₂⟩ :: ⟨Rect.unit o₁ S1x1024.size inb₁, q₁⟩ :: M))) m
      = after b c (pair X Y m) m := by
  unfold after
  split_ifs with h
  · have hm : m.val = b + (inSlice b m h).val := by simp only [inSlice]; omega
    have hlt : b + (inSlice b m h).val < 15360 := hm ▸ m.isLt
    have he : (⟨b + (inSlice b m h).val, hlt⟩ : Fin 15360) = m := Fin.ext hm.symm
    have := hpq (inSlice b m h)
    rw [load₁ h₁ inb₁ X _ hlt, load₁ h₁ inb₁ Y _ hlt, load₂ h₂ inb₂ X _ hlt, load₂ h₂ inb₂ Y _ hlt, he] at this
    unfold pair
    rw [stored₁ v g L h₁ h₂ inb₁ inb₂ p₁ p₂ m _ hm, stored₂ v g L h₂ inb₁ inb₂ p₁ p₂ m _ hm,
      stored₁ u d M h₁ h₂ inb₁ inb₂ q₁ q₂ m _ hm, stored₂ u d M h₂ inb₁ inb₂ q₁ q₂ m _ hm]
    exact this
  · have hm : m.val < b ∨ b + 1024 ≤ m.val := by omega
    unfold pair
    simp only [unstored v g L h₁ h₂ inb₁ inb₂ p₁ p₂ m _ hm, unstored u d M h₁ h₂ inb₁ inb₂ q₁ q₂ m _ hm, hX, hY]

end Sides

theorem whole_tile (x : Vec Ideal S1024x256 .f32) (inb : ∀ a, (![0, 0] : Fin 2 → ℕ) a + (![1024, 256] : Fin 2 → ℕ) a ≤ S1024x256.size a) :
    View.ld x (Rect.unit ![0, 0] ![1024, 256] inb) = x :=
  View.ld_unit_zero (funext fun a => by fin_cases a <;> rfl) inb x

theorem slice_start (n : ℕ) (h : n < 15) :
    (Scalar.indexCast (Scalar.muli (BitVec.ofNat 32 n) 1024#32) : Index).toNat = n * 1024 :=
  (by decide : ∀ n : Fin 15,
    (Scalar.indexCast (Scalar.muli (BitVec.ofNat 32 n.val) 1024#32) : Index).toNat = n.val * 1024) ⟨n, h⟩

section Point
variable (c : Dev nD) (i : grid1.Coords)
  {arg2 : Memref sig .tc .vmem S1024x256 .f32} {harg2 : arg2.IsWhole}
  {arg3 : Memref sig .tc .vmem S1024x256 .f32} {harg3 : arg3.IsWhole}
  {arg4 : Memref sig .tc .vmem S2x15360 .f32} {harg4 : arg4.IsWhole}
  {arg5 : Memref sig .tc .vmem S2x15360 .i32} {harg5 : arg5.IsWhole}
  {arg6 : Memref sig .tc .vmem S2x15360 .f32} {harg6 : arg6.IsWhole}
  {arg7 : Memref sig .tc .vmem S2x15360 .i32} {harg7 : arg7.IsWhole}
  (x0 x1 : Vec Ideal S1024x256 .f32)

set_option maxHeartbeats 1000000 in
theorem first_B (hc : ¬cond1_0 i) (xo2 : Vec Ideal S2x15360 .f32) (xo3 : Vec Ideal S2x15360 .i32) (xo4 : Vec Ideal S2x15360 .f32) (xo5 : Vec Ideal S2x15360 .i32) (m : Fin 15360) :
    pair (out1_B_2 c i arg2 harg2 arg3 harg3 arg4 harg4 arg5 harg5 arg6 harg6 arg7 harg7 hc x0 x1 xo2 xo3 xo4 xo5)
        (out1_B_3 c i arg2 harg2 arg3 harg3 arg4 harg4 arg5 harg5 arg6 harg6 arg7 harg7 hc x0 x1 xo2 xo3 xo4 xo5) m
      = after ((i 0).val * 1024) (fun n => cand (row (k1_pay5 x0 x1) n) (BitVec.ofNat 32 ((i 1).val * 1024))) (pair xo2 xo3 m) m := by
  have hs := slice_start (i 0).val (i 0).isLt
  unfold out1_B_2 out1_B_3 kernelRun1_B
  dsimp only
  sl_unfold_words
  simp only [View.readAt_eq_ld, harg2.read_unread, harg3.read_unread, harg4.read_unread, harg5.read_unread, whole_tile]
  refine (merged (b := (i 0).val * 1024) _ _ _ _ _ _ xo2 xo3 (harg4.read_unread _) (harg5.read_unread _) (by rw [hs]) (by rw [hs]) _ _ m _ _ _ _
    (fun n => cand (row (k1_pay5 x0 x1) n) (BitVec.ofNat 32 ((i 1).val * 1024))) ?_)
  exact fun n => First.stores (k1_pay5 x0 x1) n (i 1).val _ _ _ _

set_option maxHeartbeats 1000000 in
theorem first_A (hc : cond1_0 i) (m : Fin 15360) :
    pair (out1_A_2 c i arg2 harg2 arg3 harg3 arg4 harg4 arg5 harg5 arg6 harg6 arg7 harg7 hc x0 x1)
        (out1_A_3 c i arg2 harg2 arg3 harg3 arg4 harg4 arg5 harg5 arg6 harg6 arg7 harg7 hc x0 x1) m
      = after ((i 0).val * 1024) (fun n => cand (row (k1_pay5 x0 x1) n) (BitVec.ofNat 32 ((i 1).val * 1024))) (pair (k1_pay1 (F := Ideal)) k1_pay2 m) m := by
  have hs := slice_start (i 0).val (i 0).isLt
  unfold out1_A_2 out1_A_3 kernelRun1_A
  dsimp only
  sl_unfold_words
  simp only [View.readAt_eq_ld, harg2.read_unread, harg3.read_unread, filled, whole_tile]
  refine (merged (b := (i 0).val * 1024) _ _ _ _ _ _ (k1_pay1 (F := Ideal)) k1_pay2 (filled _ _ _ _) (filled _ _ _ _) (by rw [hs]) (by rw [hs]) _ _ m _ _ _ _
    (fun n => cand (row (k1_pay5 x0 x1) n) (BitVec.ofNat 32 ((i 1).val * 1024))) ?_)
  exact fun n => First.stores (k1_pay5 x0 x1) n (i 1).val _ _ _ _

set_option maxHeartbeats 1000000 in
theorem second_B (hc : ¬cond1_0 i) (xo2 : Vec Ideal S2x15360 .f32) (xo3 : Vec Ideal S2x15360 .i32) (xo4 : Vec Ideal S2x15360 .f32) (xo5 : Vec Ideal S2x15360 .i32) (m : Fin 15360) :
    pair (out1_B_4 c i arg2 harg2 arg3 harg3 arg4 harg4 arg5 harg5 arg6 harg6 arg7 harg7 hc x0 x1 xo2 xo3 xo4 xo5)
        (out1_B_5 c i arg2 harg2 arg3 harg3 arg4 harg4 arg5 harg5 arg6 harg6 arg7 harg7 hc x0 x1 xo2 xo3 xo4 xo5) m
      = after ((i 1).val * 1024) (fun n => cand (col (k1_pay5 x0 x1) n) (BitVec.ofNat 32 ((i 0).val * 1024))) (pair xo4 xo5 m) m := by
  have hs := slice_start (i 1).val (i 1).isLt
  unfold out1_B_4 out1_B_5 kernelRun1_B
  dsimp only
  sl_unfold_words
  simp only [View.readAt_eq_ld, harg2.read_unread, harg3.read_unread, harg6.read_unread, harg7.read_unread, whole_tile]
  refine (merged (b := (i 1).val * 1024) _ _ _ _ _ _ xo4 xo5 (harg6.read_unread _) (harg7.read_unread _) (by rw [hs]) (by rw [hs]) _ _ m _ _ _ _
    (fun n => cand (col (k1_pay5 x0 x1) n) (BitVec.ofNat 32 ((i 0).val * 1024))) ?_)
  exact fun n => Second.stores (k1_pay5 x0 x1) n (i 0).val _ _ _ _

set_option maxHeartbeats 1000000 in
theorem second_A (hc : cond1_0 i) (m : Fin 15360) :
    pair (out1_A_4 c i arg2 harg2 arg3 harg3 arg4 harg4 arg5 harg5 arg6 harg6 arg7 harg7 hc x0 x1)
        (out1_A_5 c i arg2 harg2 arg3 harg3 arg4 harg4 arg5 harg5 arg6 harg6 arg7 harg7 hc x0 x1) m
      = after ((i 1).val * 1024) (fun n => cand (col (k1_pay5 x0 x1) n) (BitVec.ofNat 32 ((i 0).val * 1024))) (pair (k1_pay3 (F := Ideal)) k1_pay4 m) m := by
  have hs := slice_start (i 1).val (i 1).isLt
  unfold out1_A_4 out1_A_5 kernelRun1_A
  dsimp only
  sl_unfold_words
  simp only [View.readAt_eq_ld, harg2.read_unread, harg3.read_unread, filled, whole_tile]
  refine (merged (b := (i 1).val * 1024) _ _ _ _ _ _ (k1_pay3 (F := Ideal)) k1_pay4 (filled _ _ _ _) (filled _ _ _ _) (by rw [hs]) (by rw [hs]) _ _ m _ _ _ _
    (fun n => cand (col (k1_pay5 x0 x1) n) (BitVec.ofNat 32 ((i 0).val * 1024))) ?_)
  exact fun n => Second.stores (k1_pay5 x0 x1) n (i 0).val _ _ _ _

end Point

end Cert.Region1

end
-- ==== Proof.Loop.lean ====
/- The search kernel over its whole grid: every column's running pair ends as the two best of the column's line. -/
module

public import proofs.«01_k».proof.Proof.Steps
public import proofs.«01_k».proof.Proof.Prep

@[expose] public section

set_option maxRecDepth 16384

noncomputable section

namespace Cert.Region1

open Idealize.ShloMosaic Idealize.ShloMosaic.TcCoe Idealize.SL.Sem Cert.KernelIdeal Cert.KernelIdeal.Gen Cert.Top2 Cert.Tile Cert.Pay
open Cert.Sim (prod prod_swap prod_valid prod_invalid Valid)

/-- The products of one row with every row of the other table. -/
def line (x y : Cert.Sim.Table) (n : Fin 15360) (m : ℕ) : EReal := if h : m < 15360 then prod x y n ⟨m, h⟩ else 0

/-- No three places hold one value that reaches `t`. -/
def Few (t : EReal) (f : ℕ → EReal) : Prop :=
  ∀ p q r, p < 15360 → q < 15360 → r < 15360 → p ≠ q → q ≠ r → p ≠ r → f p = f q → f q = f r → ¬ t ≤ f p

theorem line_real (x y : Cert.Sim.Table) (n : Fin 15360) (hn : Valid n.val) (m : ℕ) :
    ∃ a : ℝ, line x y n m = a ∧ |a| ≤ 4 * 10 ^ 30 := by
  unfold line
  split_ifs with h
  · by_cases hm : Valid m
    · rw [prod_valid x y n ⟨m, h⟩ hn hm]
      obtain ⟨a, ha, hb⟩ := Cert.Sim.sim_real x y ⟨_, Cert.Sim.back_lt n.isLt hn⟩ ⟨_, Cert.Sim.back_lt h hm⟩
      exact ⟨a, ha, hb.trans (by norm_num)⟩
    · rw [prod_invalid x y n ⟨m, h⟩ hn hm]
      obtain ⟨p, hp, -, hb⟩ := Cert.Sim.low_real
      exact ⟨p, hp, hb⟩
  · exact ⟨0, rfl, by norm_num⟩

theorem bot_lt_line (x y : Cert.Sim.Table) (n : Fin 15360) (hn : Valid n.val) (m : ℕ) : ⊥ < line x y n m := by
  obtain ⟨a, ha, -⟩ := line_real x y n hn m
  rw [ha]
  exact EReal.bot_lt_coe a

/-- A tile's row of products gives the two best of its piece of the line. -/
theorem cand_line {t : EReal} {x y : Cert.Sim.Table} {n : Fin 15360} (hn : Valid n.val) (ht : Few t (line x y n))
    (lo : ℕ) (hlo : lo + 1024 ≤ 15360) (a : Fin 1024 → EReal) (ha : ∀ j : Fin 1024, a j = prod x y n ⟨lo + j.val, by omega⟩) :
    Holds t (line x y n) lo (lo + 1024) (cand a (BitVec.ofNat 32 lo)) := by
  have hl : ∀ j : Fin 1024, line x y n (lo + j) = a j := fun j => by rw [ha, line, dif_pos]
  refine cand_holds hl (fun j => hl j ▸ line_real x y n hn _) fun p q r hpq hqr hpr e₁ e₂ => ?_
  rw [← hl p, ← hl q] at e₁
  rw [← hl q, ← hl r] at e₂
  rw [← hl p]
  exact ht _ _ _ (by omega) (by omega) (by omega) (by omega) (by omega) (by omega) e₁ e₂

/-- How far a running pair is: empty, or the two best of as many tiles as were taken in. -/
def Upto (t : EReal) (f : ℕ → EReal) (p : ℕ) (s : St) : Prop :=
  (p = 0 ∧ s.v₁ = ⊥ ∧ s.v₂ = ⊥) ∨ (0 < p ∧ Holds t f 0 (p * 1024) s)

theorem Upto.add {t : EReal} {f : ℕ → EReal} (hf : ∀ j, ⊥ < f j) {p : ℕ} {s c : St} (hs : Upto t f p s)
    (hc : Holds t f (p * 1024) (p * 1024 + 1024) c) : Upto t f (p + 1) (s.add c) := by
  refine .inr ⟨by omega, ?_⟩
  rw [Nat.add_mul, Nat.one_mul]
  rcases hs with ⟨rfl, h₁, h₂⟩ | ⟨-, hs⟩
  · rw [Nat.zero_mul] at hc ⊢
    exact Holds.start h₁ h₂ (fun j _ => hf j) hc
  · exact hs.append hc

/-- One point, of a column's view: `p` tiles were taken in before it, `p'` after it. -/
theorem Upto.step {t : EReal} {f : ℕ → EReal} (hf : ∀ j, ⊥ < f j) {p p' b : ℕ} {old : St} {c : Fin 1024 → St} {m : Fin 15360}
    (hs : Upto t f p old) (hin : ∀ h : b ≤ m.val ∧ m.val < b + 1024,
      p' = p + 1 ∧ Holds t f (p * 1024) (p * 1024 + 1024) (c (inSlice b m h)))
    (hout : ¬ (b ≤ m.val ∧ m.val < b + 1024) → p' = p) : Upto t f p' (after b c old m) := by
  unfold after
  split_ifs with h
  · obtain ⟨rfl, hc⟩ := hin h
    exact hs.add hf hc
  · rw [hout h]
    exact hs

theorem at_point : ∀ t : Fin cfg1.N, win1_0.index t = ![t.val / 15, 0] ∧ win1_1.index t = ![t.val % 15, 0] := by decide +kernel

theorem at_0 (t : Fin cfg1.N) : win1_0.index t = ![t.val / 15, 0] := (at_point t).1
theorem at_1 (t : Fin cfg1.N) : win1_1.index t = ![t.val % 15, 0] := (at_point t).2

theorem coord_0 (t : Fin cfg1.N) : (grid1.coords t 0).val = t.val / 15 := by
  have ht : t.val < 225 := Nat.lt_of_lt_of_eq t.isLt N_1
  have e : (grid1.coords t 0).val = t.val / 15 % 15 := Pipeline.Grid.coords_val t 0 (by decide) rfl
  omega

theorem coord_1 (t : Fin cfg1.N) : (grid1.coords t 1).val = t.val % 15 := by
  have e : (grid1.coords t 1).val = t.val / 1 % 15 := Pipeline.Grid.coords_val t 1 (by decide) rfl
  omega

theorem empty_x (m : Fin 15360) : (pair (k1_pay1 (F := Ideal)) k1_pay2 m).v₁ = ⊥ ∧ (pair (k1_pay1 (F := Ideal)) k1_pay2 m).v₂ = ⊥ := by
  have h : ∀ r : Fin 2, k1_pay1 (F := Ideal) (ix2 r m) = (⊥ : EReal) := fun r => by
    pointwise [k1_pay1]
    exact lit_bot
  exact ⟨h 0, h 1⟩

theorem empty_y (m : Fin 15360) : (pair (k1_pay3 (F := Ideal)) k1_pay4 m).v₁ = ⊥ ∧ (pair (k1_pay3 (F := Ideal)) k1_pay4 m).v₂ = ⊥ := by
  have h : ∀ r : Fin 2, k1_pay3 (F := Ideal) (ix2 r m) = (⊥ : EReal) := fun r => by
    pointwise [k1_pay3]
    exact lit_bot
  exact ⟨h 0, h 1⟩

section Arrays
variable (V : (c : Dev nD) → (b : Ref sig .tc) → Buf (Elt Ideal) ((c : Thread nD τ).loc b)) (c : Dev nD)

theorem rows_x (t : Fin cfg1.N) (ht : t.val < 225) (r : Fin 1024) (l : Fin 256) :
    iblk1 (F := Ideal) V c 0 t (ix2 r l) = V c main_v0_0 (ix2 ⟨t.val / 15 * 1024 + r.val, by omega⟩ l) := by
  blk_simp [iblk1, at_0]
  refine congrArg (V c main_v0_0) ?_
  blk_ext [at_0]

theorem rows_y (t : Fin cfg1.N) (ht : t.val < 225) (r : Fin 1024) (l : Fin 256) :
    iblk1 (F := Ideal) V c 1 t (ix2 r l) = V c main_v0_1 (ix2 ⟨t.val % 15 * 1024 + r.val, by omega⟩ l) := by
  blk_simp [iblk1, at_1]
  refine congrArg (V c main_v0_1) ?_
  blk_ext [at_1]

variable (x y : Cert.Sim.Table)
  (hx : ∀ i : S15360x256.Idx, V c main_v0_0 i = Cert.Region0.tableX x i) (hy : ∀ i : S15360x256.Idx, V c main_v0_1 i = Cert.Region0.tableY y i)

/-- The tile of products of a point. -/
abbrev tile (t : Fin cfg1.N) : FVec Ideal S1024x1024 .f32 := k1_pay5 (F := Ideal) (iblk1 V c 0 t) (iblk1 V c 1 t)

/-- A column's pair after a point, on the first side and on the second. -/
abbrev onX (t : Fin cfg1.N) (old : St) (m : Fin 15360) : St :=
  after ((grid1.coords t 0).val * 1024) (fun n => cand (row (tile V c t) n) (BitVec.ofNat 32 ((grid1.coords t 1).val * 1024))) old m
abbrev onY (t : Fin cfg1.N) (old : St) (m : Fin 15360) : St :=
  after ((grid1.coords t 1).val * 1024) (fun n => cand (col (tile V c t) n) (BitVec.ofNat 32 ((grid1.coords t 0).val * 1024))) old m

/-- The pairs the kernel holds after a point. -/
def pairX (n : ℕ) (hn : n < cfg1.N) (m : Fin 15360) : St := pair (outsAt1 V c n hn).1 (outsAt1 V c n hn).2.1 m
def pairY (n : ℕ) (hn : n < cfg1.N) (m : Fin 15360) : St := pair (outsAt1 V c n hn).2.2.1 (outsAt1 V c n hn).2.2.2 m

theorem pairX_zero (hn : 0 < cfg1.N) (m : Fin 15360) :
    pairX V c 0 hn m = onX V c ⟨0, hn⟩ (pair (k1_pay1 (F := Ideal)) k1_pay2 m) m := by
  refine (congrArg (fun o => pair o.1 o.2.1 m) (outsAt1_A V c ⟨0, hn⟩ (Nat.zero_mod _))).trans ?_
  dsimp only
  exact first_A c _ _ _ _ m

theorem pairY_zero (hn : 0 < cfg1.N) (m : Fin 15360) :
    pairY V c 0 hn m = onY V c ⟨0, hn⟩ (pair (k1_pay3 (F := Ideal)) k1_pay4 m) m := by
  refine (congrArg (fun o => pair o.2.2.1 o.2.2.2 m) (outsAt1_A V c ⟨0, hn⟩ (Nat.zero_mod _))).trans ?_
  dsimp only
  exact second_A c _ _ _ _ m

theorem later {n : ℕ} (hn : n + 1 < cfg1.N) : ¬ (n + 1) % 225 = 0 := by
  have ht : n + 1 < 225 := Nat.lt_of_lt_of_eq hn N_1
  omega

theorem pairX_succ (n : ℕ) (hn : n + 1 < cfg1.N) (m : Fin 15360) :
    pairX V c (n + 1) hn m = onX V c ⟨n + 1, hn⟩ (pairX V c n (Nat.lt_of_succ_lt hn) m) m := by
  refine (congrArg (fun o => pair o.1 o.2.1 m) (outsAt1_B V c ⟨n + 1, hn⟩ (later hn))).trans ?_
  dsimp only
  exact first_B c _ _ _ _ _ _ _ _ m

theorem pairY_succ (n : ℕ) (hn : n + 1 < cfg1.N) (m : Fin 15360) :
    pairY V c (n + 1) hn m = onY V c ⟨n + 1, hn⟩ (pairY V c n (Nat.lt_of_succ_lt hn) m) m := by
  refine (congrArg (fun o => pair o.2.2.1 o.2.2.2 m) (outsAt1_B V c ⟨n + 1, hn⟩ (later hn))).trans ?_
  dsimp only
  exact second_B c _ _ _ _ _ _ _ _ m

include hx hy

/-- The tile of a point holds the products of its rows. -/
theorem tile_prod (t : Fin cfg1.N) (ht : t.val < 225) (n j : Fin 1024) :
    tile V c t (ix2 n j)
      = prod x y ⟨t.val / 15 * 1024 + n.val, by omega⟩ ⟨t.val % 15 * 1024 + j.val, by omega⟩ := by
  unfold tile
  rw [pay5_apply]
  refine Finset.sum_congr rfl fun l _ => ?_
  rw [rows_x V c t ht, rows_y V c t ht, hx, hy]
  rfl

variable {v : EReal} (m : Fin 15360) (hm : Valid m.val)

include hm

theorem taken_x (hv : Few v (line x y m)) (t : Fin cfg1.N) (ht : t.val < 225) {old : St}
    (hs : Upto v (line x y m) (min 15 (t.val - m.val / 1024 * 15)) old) :
    Upto v (line x y m) (min 15 (t.val + 1 - m.val / 1024 * 15))
      (onX V c t old m) := by
  unfold onX
  rw [coord_0, coord_1]
  have := m.isLt
  refine hs.step (bot_lt_line x y m hm) (fun h => ?_) fun h => by omega
  have e : min 15 (t.val - m.val / 1024 * 15) = t.val % 15 := by omega
  refine ⟨by omega, ?_⟩
  rw [e]
  refine cand_line hm hv _ (by omega) _ fun j => ?_
  refine (tile_prod V c x y hx hy t ht _ j).trans ?_
  exact congrArg (fun a => prod x y a _) (Fin.ext (by simp only [inSlice]; omega))

theorem taken_y (hv : Few v (line y x m)) (t : Fin cfg1.N) (ht : t.val < 225) {old : St}
    (hs : Upto v (line y x m) ((t.val + 14 - m.val / 1024) / 15) old) :
    Upto v (line y x m) ((t.val + 1 + 14 - m.val / 1024) / 15)
      (onY V c t old m) := by
  unfold onY
  rw [coord_0, coord_1]
  have := m.isLt
  refine hs.step (bot_lt_line y x m hm) (fun h => ?_) fun h => by omega
  have e : (t.val + 14 - m.val / 1024) / 15 = t.val / 15 := by omega
  refine ⟨by omega, ?_⟩
  rw [e]
  refine cand_line hm hv _ (by omega) _ fun j => ?_
  refine (tile_prod V c x y hx hy t ht j _).trans ((prod_swap ..).trans ?_)
  exact congrArg (fun a => prod y x a _) (Fin.ext (by simp only [inSlice]; omega))

theorem run_x (hv : Few v (line x y m)) : ∀ n (hn : n < cfg1.N),
    Upto v (line x y m) (min 15 (n + 1 - m.val / 1024 * 15)) (pairX V c n hn m)
  | 0, hn => by
    rw [pairX_zero]
    exact taken_x V c x y hx hy m hm hv ⟨0, hn⟩ (Nat.zero_lt_succ _) (.inl ⟨by simp, empty_x m⟩)
  | n + 1, hn => by
    rw [pairX_succ]
    exact taken_x V c x y hx hy m hm hv ⟨n + 1, hn⟩ (Nat.lt_of_lt_of_eq hn N_1) (run_x hv n (Nat.lt_of_succ_lt hn))

theorem run_y (hv : Few v (line y x m)) : ∀ n (hn : n < cfg1.N),
    Upto v (line y x m) ((n + 1 + 14 - m.val / 1024) / 15) (pairY V c n hn m)
  | 0, hn => by
    rw [pairY_zero]
    exact taken_y V c x y hx hy m hm hv ⟨0, hn⟩ (Nat.zero_lt_succ _) (.inl ⟨by simp only; omega, empty_y m⟩)
  | n + 1, hn => by
    rw [pairY_succ]
    exact taken_y V c x y hx hy m hm hv ⟨n + 1, hn⟩ (Nat.lt_of_lt_of_eq hn N_1) (run_y hv n (Nat.lt_of_succ_lt hn))

/-- After the last point. -/
theorem last_x (hv : Few v (line x y m)) (t : Fin cfg1.N) (ht : t.val = 224) :
    Holds v (line x y m) 0 15360 (pairX V c t.val t.isLt m) := by
  have := m.isLt
  rcases run_x V c x y hx hy m hm hv t.val t.isLt with h | h
  · omega
  · rw [show min 15 (t.val + 1 - m.val / 1024 * 15) = 15 by omega] at h
    exact h.2

theorem last_y (hv : Few v (line y x m)) (t : Fin cfg1.N) (ht : t.val = 224) :
    Holds v (line y x m) 0 15360 (pairY V c t.val t.isLt m) := by
  have := m.isLt
  rcases run_y V c x y hx hy m hm hv t.val t.isLt with h | h
  · omega
  · rw [show (t.val + 1 + 14 - m.val / 1024) / 15 = 15 by omega] at h
    exact h.2

end Arrays

section Final
variable (V : (c : Dev nD) → (b : Ref sig .tc) → Buf (Elt Ideal) ((c : Thread nD τ).loc b)) (c : Dev nD)

/-- The running pairs leave the chip once, after the last point. -/
theorem flushes : ∃ t : Fin cfg1.N, t.val = 224 ∧ (cfg1.win 2).WholeAt t ∧ (cfg1.win 3).WholeAt t
    ∧ (cfg1.win 4).WholeAt t ∧ (cfg1.win 5).WholeAt t :=
  ⟨⟨224, by decide⟩, rfl, by decide +kernel, by decide +kernel, by decide +kernel, by decide +kernel⟩

theorem flushed_2 (t : Fin cfg1.N) (h : (cfg1.win 2).WholeAt t) : (dat1 (F := Ideal) V c).arrAt 2 cfg1.N
    = ((outsAt1 V c t.val t.isLt).1 : Buf (Elt Ideal) ((c : Thread nD τ).loc main_v1_0)) := by
  refine (dat1 V c).arrAt_eq_of_after_last 2 t h _ fun j => ?_
  rw [after1_2]
  rfl

theorem flushed_3 (t : Fin cfg1.N) (h : (cfg1.win 3).WholeAt t) : (dat1 (F := Ideal) V c).arrAt 3 cfg1.N
    = ((outsAt1 V c t.val t.isLt).2.1 : Buf (Elt Ideal) ((c : Thread nD τ).loc main_v1_1)) := by
  refine (dat1 V c).arrAt_eq_of_after_last 3 t h _ fun j => ?_
  rw [after1_3]
  rfl

theorem flushed_4 (t : Fin cfg1.N) (h : (cfg1.win 4).WholeAt t) : (dat1 (F := Ideal) V c).arrAt 4 cfg1.N
    = ((outsAt1 V c t.val t.isLt).2.2.1 : Buf (Elt Ideal) ((c : Thread nD τ).loc main_v1_2)) := by
  refine (dat1 V c).arrAt_eq_of_after_last 4 t h _ fun j => ?_
  rw [after1_4]
  rfl

theorem flushed_5 (t : Fin cfg1.N) (h : (cfg1.win 5).WholeAt t) : (dat1 (F := Ideal) V c).arrAt 5 cfg1.N
    = ((outsAt1 V c t.val t.isLt).2.2.2 : Buf (Elt Ideal) ((c : Thread nD τ).loc main_v1_3)) := by
  refine (dat1 V c).arrAt_eq_of_after_last 5 t h _ fun j => ?_
  rw [after1_5]
  rfl

end Final

end Cert.Region1

end
-- ==== Proof.Tail.lean ====
/- The lines after the search: the padding's rows are dropped and the positions renumbered. -/
module

public import proofs.«01_k».proof.Proof.IdealFrame
public import Idealize.ShloMosaic.Lib.Pointwise

@[expose] public section

set_option maxRecDepth 16384

noncomputable section

namespace Cert.Tail

open Idealize.ShloMosaic Idealize.ShloMosaic.TcCoe Idealize.SL.Sem Cert.KernelIdeal Cert.KernelIdeal.Gen

variable {e : EltTy}

/-- The rows kept: 3000 of every 3072. -/
def rows (T : Vec Ideal S2x15360 e) : Vec Ideal S15000x2 e :=
  shapeCast S15000x2 (extractStridedSlice S5x3000x2 ![0, 0, 0]
    (shapeCast S5x3072x2 (transpose S15360x2 [1, 0] T transposes_S2x15360_S15360x2_1_0) shapeCasts_S15360x2_S5x3072x2)
    slices_S5x3072x2_S5x3000x2_0_0_0) shapeCasts_S5x3000x2_S15000x2

theorem rows_apply (T : Vec Ideal S2x15360 e) (r : Fin 15000) (k : Fin 2) :
    rows T (ix2 r k) = T (ix2 k ⟨r.val / 3000 * 3072 + r.val % 3000, by omega⟩) := by
  pointwise [rows]

/-- The quotient of the positions by 3072, rounded down. -/
def quot (w : Vec Ideal S15000x2 .i32) (d : Vec Ideal S_ .i32) : Vec Ideal S15000x2 .i32 :=
  select (andi (cmpi .ne (signi w) (broadcastInDim S15000x2 ![] bcast_S_S15000x2 (signi d)))
      (cmpi .ne (Host.remsi w (broadcastInDim S15000x2 ![] bcast_S_S15000x2 d)) (broadcastInDim S15000x2 ![] bcast_S_S15000x2 (constantI S_ 32 0#32))))
    (subi (Host.divsi w (broadcastInDim S15000x2 ![] bcast_S_S15000x2 d)) (broadcastInDim S15000x2 ![] bcast_S_S15000x2 (constantI S_ 32 1#32)))
    (Host.divsi w (broadcastInDim S15000x2 ![] bcast_S_S15000x2 d))

/-- The positions renumbered: 72 places less for every 3072. -/
def renum (w : Vec Ideal S15000x2 .i32) : Vec Ideal S15000x2 .i32 :=
  subi w (muli (broadcastInDim S15000x2 ![] bcast_S_S15000x2 (constantI S_ 32 72#32)) (quot w (constantI S_ 32 3072#32)))

/-- The renumbering of one position. -/
def renumWord (w : BitVec 32) : BitVec 32 :=
  renum (fun _ => w) (ix2 0 0)

theorem renum_apply (w : Vec Ideal S15000x2 .i32) (r : Fin 15000) (k : Fin 2) : renum w (ix2 r k) = renumWord (w (ix2 r k)) := rfl

theorem renumWord_nat : ∀ n : Fin 15360, renumWord (BitVec.ofNat 32 n.val) = BitVec.ofNat 32 (n.val - 72 * (n.val / 3072)) := by
  decide +kernel

variable (m : (ℓ : Loc nD τ sig) → Buf (Elt Ideal) ℓ) (ρ : Dev nD → PrngReg) (c : Dev nD)

theorem result_0 : W7 m ρ c (Proc.devRef .tc main_v5) = rows (e := .f32) (W2 m ρ c (Proc.devRef .tc main_v1_0)) := by
  rw [W7_of m ρ c _ (by decide), W6_of m ρ c _ (by decide), W5_of m ρ c _ (by decide), W4_of m ρ c _ (by decide)]
  unfold W3
  simp only [hostOps2]
  after_results
  rfl

theorem result_1 : W7 m ρ c (Proc.devRef .tc main_v13) = renum (rows (e := .i32) (W2 m ρ c (Proc.devRef .tc main_v1_1))) := by
  rw [W7_of m ρ c _ (by decide), W6_of m ρ c _ (by decide)]
  unfold W5 W4 W3
  simp only [hostOps2, hostOps2_1, hostOps2_2, StableHlo.TRef.binary, StableHlo.TRef.ternary, StableHlo.TRef.nullary,
    StableHlo.TRef.unary, StableHlo.TRef.toBuf, StableHlo.TRef.ofBuf, cast_eq]
  after_results
  rfl

theorem result_2 : W7 m ρ c (Proc.devRef .tc main_v17) = rows (e := .f32) (W2 m ρ c (Proc.devRef .tc main_v1_2)) := by
  rw [W7_of m ρ c _ (by decide), W6_of m ρ c _ (by decide)]
  refine Eq.trans ?_ (congrArg (rows (e := .f32)) ((W4_of m ρ c main_v1_2 (by decide)).trans (W3_of m ρ c main_v1_2 (by decide))))
  unfold W5
  generalize W4 m ρ c = W
  simp only [hostOps2_2]
  after_results
  rfl

theorem result_3 : W7 m ρ c (Proc.devRef .tc main_v25) = renum (rows (e := .i32) (W2 m ρ c (Proc.devRef .tc main_v1_3))) := by
  refine Eq.trans ?_ (congrArg (fun T => renum (rows (e := .i32) T))
    ((W4_of m ρ c main_v1_3 (by decide)).trans (W3_of m ρ c main_v1_3 (by decide))))
  unfold W7 W6 W5
  generalize W4 m ρ c = W
  simp only [hostOps2_2, hostOps2_3, hostOps2_4, StableHlo.TRef.binary, StableHlo.TRef.ternary, StableHlo.TRef.nullary,
    StableHlo.TRef.unary, StableHlo.TRef.toBuf, StableHlo.TRef.ofBuf, cast_eq]
  after_results
  rfl

end Cert.Tail

end
-- ==== Proof.Sort.lean ====
/- The stable sort behind the search's definition: its places in the ranking's order. -/
module

public import proofs.«01_k».proof.Proof.Top2
public import Idealize.ShloMosaic.Lib.SortFacts

@[expose] public section

noncomputable section

namespace Cert.Sort

open Idealize.ShloMosaic Cert.Top2

variable {n : ℕ} {f : ℕ → EReal} {R : Fin n → Fin n → Bool} (hR : ∀ a b, R a b = true ↔ f b.val < f a.val)

include hR

theorem insert_ranked (a : Fin n) : ∀ l : List (Fin n), (∀ b ∈ l, a < b) → l.Pairwise (fun b c => Before f b.val c.val) →
    (insertBefore R a l).Pairwise fun b c => Before f b.val c.val
  | [], _, _ => List.pairwise_singleton _ _
  | b :: l, hlt, hp => by
    obtain ⟨hb, hl⟩ := List.pairwise_cons.mp hp
    unfold insertBefore
    split_ifs with h
    · refine List.pairwise_cons.mpr ⟨fun c hc => ?_, insert_ranked a l (fun c hc => hlt c (List.mem_cons_of_mem _ hc)) hl⟩
      rcases List.mem_cons.mp ((perm_insertBefore R a l).mem_iff.mp hc) with rfl | hc
      · exact .inl ((hR _ _).mp h)
      · exact hb c hc
    · have hab : Before f a.val b.val := before_of_not_lt (hlt b (List.mem_cons_self ..)) fun e => h ((hR _ _).mpr e)
      refine List.pairwise_cons.mpr ⟨fun c hc => ?_, hp⟩
      rcases List.mem_cons.mp hc with rfl | hc
      · exact hab
      · exact hab.trans (hb c hc)

theorem sort_ranked : ∀ l : List (Fin n), l.Pairwise (· < ·) → (stableSort R l).Pairwise fun b c => Before f b.val c.val
  | [], _ => List.Pairwise.nil
  | a :: l, hl => by
    obtain ⟨ha, hl⟩ := List.pairwise_cons.mp hl
    unfold stableSort
    exact insert_ranked hR a _ (fun b hb => ha b ((perm_stableSort R l).mem_iff.mp hb)) (sort_ranked l hl)

/-- An earlier place of the sorted row ranks before a later one. -/
theorem ranked (i j : Fin n) (h : i < j) : Before f (sortedFrom R i).val (sortedFrom R j).val := by
  have hp : ∀ a b : Fin (sortPositions n R).length, a < b →
      Before f ((sortPositions n R).get a).val ((sortPositions n R).get b).val :=
    List.pairwise_iff_get.mp (sort_ranked hR (List.finRange n) (List.pairwise_lt_finRange n))
  unfold sortedFrom
  exact hp _ _ (by simp only [Fin.lt_def, Fin.val_cast]; exact h)

/-- The first two places are the two best. -/
theorem isTop (i j : Fin n) (hi : i.val = 0) (hj : j.val = 1) : IsTop f 0 n (sortedFrom R i).val (sortedFrom R j).val where
  lo₁ := Nat.zero_le _
  hi₁ := (sortedFrom R i).isLt
  lo₂ := Nat.zero_le _
  hi₂ := (sortedFrom R j).isLt
  ne h := by
    have := sortedFrom_injective R (Fin.ext h)
    omega
  first k _ hk hne := by
    obtain ⟨l, hl⟩ := sortedFrom_surjective R ⟨k, hk⟩
    have e : (sortedFrom R l).val = k := congrArg Fin.val hl
    rw [← e] at hne ⊢
    have : l ≠ i := fun h => hne (h ▸ rfl)
    exact ranked hR i l (by rw [Fin.lt_def]; omega)
  second k _ hk hne hne' := by
    obtain ⟨l, hl⟩ := sortedFrom_surjective R ⟨k, hk⟩
    have e : (sortedFrom R l).val = k := congrArg Fin.val hl
    rw [← e] at hne hne' ⊢
    have h₁ : l ≠ i := fun h => hne (h ▸ rfl)
    have h₂ : l ≠ j := fun h => hne' (h ▸ rfl)
    exact ranked hR j l (by rw [Fin.lt_def]; omega)

end Cert.Sort

end
-- ==== Proof.Ref.lean ====
/- The reference's side: the similarities and the two best of each row, and the rows the mask keeps. -/
module

public import proofs.«01_k».proof.Proof.Sort
public import proofs.«01_k».proof.Proof.Unit
public import proofs.«01_k».proof.Proof.Gen.ReferenceIdeal
public import proofs.«01_k».proof.Proof.Gen.On_clear_rows
public import Idealize.ShloMosaic.Lib.Pointwise

@[expose] public section

set_option maxRecDepth 16384

noncomputable section

namespace Cert.Ref

open Idealize.ShloMosaic Cert.Top2

abbrev Square : Shape := ⟨2, ![15000, 15000]⟩

/-- "Greater" on a row of a square table, by position. -/
def greater (z : FVec Ideal Square .f32) (r : Fin 15000) (a b : Fin 15000) : Bool :=
  FloatOps.cmpfTotal .gt (z (ix2 r a)) (z (ix2 r b)) == 1#1

/-- The row's positions, the greatest first. -/
def place (z : FVec Ideal Square .f32) (r : Fin 15000) (k : Fin 15000) : Fin 15000 := sortedFrom (greater z r) k

theorem along_row (j : Square.Idx) (k : Fin 15000) : j.along 1 k = ix2 (j 0) k := by
  funext a
  fin_cases a <;> rfl

/-- Sorting a square table's rows together with their positions. -/
theorem sort_rows (z : FVec Ideal Square .f32) (idx : IVec Square 32) :
    Host.sort2 Square 1 (fun l r => FloatOps.cmpfTotal (F := Ideal) (φ := .f32) .gt l.1 r.1) z idx
      = (fun j => z (ix2 (j 0) (place z (j 0) (j 1))), fun j => idx (ix2 (j 0) (place z (j 0) (j 1)))) := by
  have e (j : Square.Idx) : (fun k k' : Fin 15000 => FloatOps.cmpfTotal (F := Ideal) (φ := .f32) .gt (z (j.along 1 k)) (z (j.along 1 k')) == 1#1)
      = greater z (j 0) := by
    funext k k'
    rw [along_row, along_row]
    rfl
  unfold Host.sort2
  rw [dif_pos (by decide : 1 < Square.rank)]
  refine Prod.ext (funext fun j => ?_) (funext fun j => ?_)
  · refine congrArg z ((along_row j _).trans (congrArg (ix2 (j 0)) ?_))
    exact congrArg (fun R => sortedFrom R (j 1)) (e j)
  · refine congrArg idx ((along_row j _).trans (congrArg (ix2 (j 0)) ?_))
    exact congrArg (fun R => sortedFrom R (j 1)) (e j)

section
variable {w : ℕ} (hw : w ≤ 15000) (z : FVec Ideal Square .f32) (h : Square.Slices (fun _ => 0) ⟨2, ![15000, w]⟩) (r : Fin 15000) (k : Fin w)

/-- The first columns of a row-sorted table. -/
theorem sliced {α : Type} (T : Square.Idx → α) :
    extractStridedSlice (⟨2, ![15000, w]⟩ : Shape) (fun _ => 0) T h (ix2 r k) = T (ix2 r (k.castLE hw)) := by
  refine congrArg T ?_
  funext a
  fin_cases a <;> exact Fin.ext (Nat.zero_add _)

theorem topK_value : (Host.topK ⟨2, ![15000, w]⟩ 1 (FloatOps.cmpfTotal .gt) z h).1 (ix2 r k)
    = z (ix2 r (place z r (k.castLE hw))) := by
  unfold Host.topK
  dsimp only
  rw [sliced hw _ r k, sort_rows]
  rfl

theorem topK_index : (Host.topK ⟨2, ![15000, w]⟩ 1 (FloatOps.cmpfTotal .gt) z h).2 (ix2 r k)
    = BitVec.ofNat 32 (place z r (k.castLE hw)).val := by
  unfold Host.topK
  dsimp only
  rw [sliced hw _ r k, sort_rows]
  rfl

end

theorem greater_iff (z : FVec Ideal Square .f32) (r : Fin 15000) (f : ℕ → EReal) (hf : ∀ j : Fin 15000, z (ix2 r j) = f j.val)
    (a b : Fin 15000) : greater z r a b = true ↔ f b.val < f a.val := by
  rw [← hf, ← hf]
  unfold greater
  generalize z (ix2 r a) = u
  generalize z (ix2 r b) = v
  change (BitVec.ofBool (decide (v < u)) == 1#1) = true ↔ v < u
  by_cases q : v < u <;> simp [q]

section Sims
open Cert.ReferenceIdeal Cert.ReferenceIdeal.Gen

variable (x y : FVec Ideal S15000x200 .f32)

/-- The rows divided by their lengths, as the reference computes them. -/
def units : FVec Ideal S15000x200 .f32 :=
  Host.divf x (broadcastInDim S15000x200 ![0, 1] bcast_S15000x1_S15000x200_0_1 (maximumf (Host.sqrt (broadcastInDim S15000x1 ![0]
    bcast_S15000_S15000x1_0 (Host.reduceAdd (mulf x x) (constant S_ .f32 0x00000000#32) reducesTo_S15000x200_S15000_d1 h_S_)))
    (broadcastInDim S15000x1 ![] bcast_S_S15000x1 (constant S_ .f32 0x322BCC77#32))))

/-- The similarities, as the reference computes them. -/
def sims : FVec Ideal Square .f32 :=
  Host.dotGeneral dot_S15000x200_S200x15000_S15000x15000_1_0_0_1_n_n none (units x)
    (transpose S200x15000 [1, 0] (units y) transposes_S15000x200_S200x15000_1_0)

def simsT : FVec Ideal Square .f32 := transpose S15000x15000 [1, 0] (sims x y) transposes_S15000x15000_S15000x15000_1_0

theorem units_apply (r : Fin 15000) (j : Fin 200) : units x (ix2 r j) = Cert.Sim.unit x r j := by
  pointwise [units]
  rfl

theorem sims_apply (r p : Fin 15000) : sims x y (ix2 r p) = Cert.Sim.sim x y r p := by
  unfold sims Cert.Sim.sim
  simp only [← units_apply]
  generalize units x = u
  generalize units y = v
  pointwise

theorem simsT_apply (r p : Fin 15000) : simsT x y (ix2 r p) = Cert.Sim.sim y x r p := by
  rw [Cert.Sim.sim_comm, ← sims_apply]
  unfold simsT
  generalize sims x y = z
  pointwise

/-- The place two after the row's best or its second best. -/
def twoAfter (k : Fin 2) : Fin 15000 := ⟨k.val + 2, by omega⟩

/-- No third position ties with the row's best or with the place `k`, by the values ranked first to fourth. -/
def Clear (z : FVec Ideal Square .f32) (r : Fin 15000) (k : Fin 2) : Prop :=
  z (ix2 r (place z r 0)) ≠ z (ix2 r (place z r 2)) ∧ z (ix2 r (place z r (k.castLE (by decide)))) ≠ z (ix2 r (place z r (twoAfter k)))

/-- The values two places apart that are equal. -/
def tied (V : FVec Ideal Cert.On_clear_rows.S15000x4 .f32) : IVec S15000x2 1 :=
  cmpf .oeq (extractStridedSlice S15000x2 ![0, 0] V Cert.On_clear_rows.Gen.slices_S15000x4_S15000x2_0_0)
    (extractStridedSlice S15000x2 ![0, 2] V Cert.On_clear_rows.Gen.slices_S15000x4_S15000x2_0_2)

/-- The mask's test of a row, from the four values ranked first. -/
def test (V : FVec Ideal Cert.On_clear_rows.S15000x4 .f32) : IVec S15000x2 1 :=
  noti (ori (tied V) (broadcastInDim S15000x2 ![0, 1] Cert.On_clear_rows.Gen.bcast_S15000x1_S15000x2_0_1
    (extractStridedSlice S15000x1 ![0, 0] (tied V) Cert.On_clear_rows.Gen.slices_S15000x2_S15000x1_0_0)))

theorem tied_apply (V : FVec Ideal Cert.On_clear_rows.S15000x4 .f32) (r : Fin 15000) (k : Fin 2) :
    tied V (ix2 r k) = BitVec.ofBool (decide (V (ix2 r (k.castLE (by decide))) = V (ix2 r ⟨k.val + 2, by omega⟩))) := by
  unfold tied
  fin_cases k <;> (pointwise; rfl)

theorem test_apply (V : FVec Ideal Cert.On_clear_rows.S15000x4 .f32) (r : Fin 15000) (k : Fin 2) (h : test V (ix2 r k) = 1#1) :
    V (ix2 r 0) ≠ V (ix2 r 2) ∧ V (ix2 r (k.castLE (by decide))) ≠ V (ix2 r ⟨k.val + 2, by omega⟩) := by
  have e : test V (ix2 r k) = ~~~ IntOp.ori (tied V (ix2 r k)) (tied V (ix2 r 0)) := by
    unfold test
    generalize tied V = T
    pointwise
  rw [e, tied_apply, tied_apply] at h
  change ~~~ IntOp.ori _ (BitVec.ofBool (decide (V (ix2 r 0) = V (ix2 r 2)))) = 1#1 at h
  revert h
  generalize V (ix2 r 0) = a, V (ix2 r 2) = b, V (ix2 r (k.castLE (by decide))) = c, V (ix2 r ⟨k.val + 2, by omega⟩) = d
  intro h
  by_cases p : a = b <;> by_cases q : c = d <;> simp [p, q, IntOp.ori] at h ⊢

theorem mask_0 : (Cert.On_clear_rows.fn (F := Ideal) x y).2.1
    = test (Host.topK ⟨2, ![15000, 4]⟩ 1 (FloatOps.cmpfTotal .gt) (sims x y) Cert.On_clear_rows.Gen.sliceFits_S15000x15000_S15000x4).1 := rfl

theorem mask_1 : (Cert.On_clear_rows.fn (F := Ideal) x y).2.2.2
    = test (Host.topK ⟨2, ![15000, 4]⟩ 1 (FloatOps.cmpfTotal .gt) (simsT x y) Cert.On_clear_rows.Gen.sliceFits_S15000x15000_S15000x4).1 := rfl

theorem clear_of_test (z : FVec Ideal Square .f32) (hs : Square.Slices (fun _ => 0) ⟨2, ![15000, 4]⟩) (r : Fin 15000) (k : Fin 2)
    (h : test (Host.topK ⟨2, ![15000, 4]⟩ 1 (FloatOps.cmpfTotal .gt) z hs).1 (ix2 r k) = 1#1) : Clear z r k := by
  have := test_apply _ r k h
  simp only [topK_value (by decide : 4 ≤ 15000)] at this
  exact this

end Sims

end Cert.Ref

end
-- ==== Proof.Match.lean ====
/- The kernel's two best of a padded line are the reference's two best of a row. -/
module

public import proofs.«01_k».proof.Proof.Loop
public import proofs.«01_k».proof.Proof.Tail
public import proofs.«01_k».proof.Proof.Ref

@[expose] public section

set_option maxRecDepth 16384

noncomputable section

namespace Cert.Match

open Idealize.ShloMosaic Cert.Top2 Cert.Sim Cert.Ref Cert.Region1

/-- Where the padded tables hold row `j`. -/
def pad (j : ℕ) : ℕ := j / 3000 * 3072 + j % 3000

theorem pad_lt {j : ℕ} (h : j < 15000) : pad j < 15360 := by unfold pad; omega
theorem pad_valid (j : ℕ) : Valid (pad j) := by unfold Valid pad; omega
theorem back_pad (j : ℕ) : back (pad j) = j := by unfold back pad; omega
theorem pad_back {m : ℕ} (h : Valid m) : pad (back m) = m := by unfold Valid at h; unfold back pad; omega
theorem pad_lt_pad {a b : ℕ} (h : a < b) : pad a < pad b := by unfold pad; omega
theorem pad_inj {a b : ℕ} (h : pad a = pad b) : a = b := by rw [← back_pad a, h, back_pad]

/-- The padding's values are below all others. -/
def Padded (g : ℕ → EReal) : Prop := ∀ m, m < 15360 → ¬ Valid m → ∀ j, j < 15000 → g m < g (pad j)

theorem top_pad {g : ℕ → EReal} (hg : Padded g) {a b : ℕ} (h : IsTop (fun j => g (pad j)) 0 15000 a b) :
    IsTop g 0 15360 (pad a) (pad b) := by
  have up {c m : ℕ} (hc : c < 15000) (hm : m < 15360) (H : Valid m → Before (fun j => g (pad j)) c (back m)) : Before g (pad c) m := by
    by_cases hv : Valid m
    · have := H hv
      unfold Before at this ⊢
      simp only [pad_back hv] at this
      refine this.imp id fun e => ⟨e.1, ?_⟩
      have l := pad_lt_pad e.2
      rwa [pad_back hv] at l
    · exact .inl (hg m hm hv c hc)
  exact {
    lo₁ := Nat.zero_le _
    hi₁ := pad_lt h.hi₁
    lo₂ := Nat.zero_le _
    hi₂ := pad_lt h.hi₂
    ne := fun e => h.ne (pad_inj e)
    first := fun m _ hm hne => up h.hi₁ hm fun hv => h.first _ (Nat.zero_le _) (back_lt hm hv)
      fun e => hne (by rw [← e, pad_back hv])
    second := fun m _ hm hne hne' => up h.hi₂ hm fun hv => h.second _ (Nat.zero_le _) (back_lt hm hv)
      (fun e => hne (by rw [← e, pad_back hv])) fun e => hne' (by rw [← e, pad_back hv]) }

section Row
variable (z : FVec Ideal Square .f32) (r : Fin 15000) {g : ℕ → EReal} (hg : Padded g)
  (hz : ∀ j : Fin 15000, z (ix2 r j) = g (pad j.val))
include hg hz

omit hg hz in
theorem seats : (0 : Fin 15000).val = 0 ∧ (1 : Fin 15000).val = 1 := by
  constructor <;> simp

theorem top_row : IsTop g 0 15360 (pad (place z r 0).val) (pad (place z r 1).val) :=
  top_pad hg (Cert.Sort.isTop (greater_iff z r (fun j => g (pad j)) hz) 0 1 seats.1 seats.2)

theorem falls (i j : Fin 15000) (h : i < j) : g (pad (place z r j).val) ≤ g (pad (place z r i).val) :=
  Before.le (f := fun j => g (pad j)) (Cert.Sort.ranked (greater_iff z r (fun j => g (pad j)) hz) i j h)

/-- Where the row is clear no three places hold one value that reaches the best, or the second best. -/
theorem few_row (k : Fin 2) (hc : Clear z r k) : Few (g (pad (place z r (k.castLE (by decide))).val)) g := by
  have hk : k.val + 2 ≤ 3 := by omega
  have hlt : g (pad (place z r (twoAfter k)).val) < g (pad (place z r (k.castLE (by decide))).val) :=
    lt_of_le_of_ne (falls z r hg hz _ _ (by rw [Fin.lt_def]; show k.val < k.val + 2; omega)) fun e => hc.2 (by rw [hz, hz]; exact e.symm)
  intro p q s hp hq hs hpq hqs hps e₁ e₂ ht
  have find (m : ℕ) (hm : m < 15360) (h : g (pad (place z r (k.castLE (by decide))).val) ≤ g m) :
      ∃ i : Fin 15000, i.val < k.val + 2 ∧ pad (place z r i).val = m := by
    have hv : Valid m := by
      by_contra hv
      exact absurd (hg m hm hv _ (place z r _).isLt) (not_lt.mpr h)
    obtain ⟨i, hi⟩ := sortedFrom_surjective (greater z r) ⟨back m, back_lt hm hv⟩
    have e : pad (place z r i).val = m := by
      unfold place
      rw [hi, pad_back hv]
    refine ⟨i, ?_, e⟩
    by_contra hi
    have hle : g m ≤ g (pad (place z r (twoAfter k)).val) := by
      rw [← e]
      rcases eq_or_ne i (twoAfter k) with rfl | n
      · exact le_rfl
      · refine falls z r hg hz _ i ?_
        have : i.val ≠ k.val + 2 := fun h => n (Fin.ext h)
        rw [Fin.lt_def]
        show k.val + 2 < i.val
        omega
    exact absurd (lt_of_le_of_lt hle hlt) (not_lt.mpr h)
  obtain ⟨i, hi, ei⟩ := find p hp ht
  obtain ⟨j, hj, ej⟩ := find q hq (ht.trans_eq e₁)
  obtain ⟨l, hl, el⟩ := find s hs (ht.trans_eq (e₁.trans e₂))
  have nij : i.val ≠ j.val := fun h => hpq (by rw [← ei, ← ej, Fin.ext h])
  have njl : j.val ≠ l.val := fun h => hqs (by rw [← ej, ← el, Fin.ext h])
  have nil : i.val ≠ l.val := fun h => hps (by rw [← ei, ← el, Fin.ext h])
  have all (a : Fin 15000) (ha : a.val < 3) : g (pad (place z r a).val) = g p := by
    have : a.val = i.val ∨ a.val = j.val ∨ a.val = l.val := by omega
    rcases this with h | h | h
    · rw [Fin.ext h, ei]
    · rw [Fin.ext h, ej, e₁]
    · rw [Fin.ext h, el, e₁, e₂]
  exact hc.1 (by rw [hz, hz, all 0 (by simp), all 2 (by simp)])

theorem values {s : St} (h : Holds ⊤ g 0 15360 s) : s.v₁ = z (ix2 r (place z r 0)) ∧ s.v₂ = z (ix2 r (place z r 1)) := by
  obtain ⟨a, b, ht, h₁, h₂, -, -⟩ := h
  obtain ⟨ea, eb⟩ := ht.unique (top_row z r hg hz)
  rw [ea] at h₁
  rw [eb] at h₂
  exact ⟨h₁.trans (hz _).symm, h₂.trans (hz _).symm⟩

theorem positions (k : Fin 2) {s : St} (h : Holds (g (pad (place z r (k.castLE (by decide))).val)) g 0 15360 s) :
    ![s.i₁, s.i₂] k = BitVec.ofNat 32 (pad (place z r (k.castLE (by decide))).val) := by
  obtain ⟨a, b, ht, -, -, h₁, h₂⟩ := h
  obtain ⟨ea, eb⟩ := ht.unique (top_row z r hg hz)
  rw [ea] at h₁
  rw [eb] at h₂
  fin_cases k
  · exact h₁ le_rfl
  · exact h₂ le_rfl

end Row

section Line
variable (x y : Cert.Sim.Table) (n : Fin 15360) (hn : Valid n.val) (r : Fin 15000) (hr : back n.val = r.val)
include hn hr

theorem line_pad (j : Fin 15000) : sim x y r j = line x y n (pad j.val) := by
  unfold line
  rw [dif_pos (pad_lt j.isLt), prod_valid x y n ⟨pad j.val, pad_lt j.isLt⟩ hn (pad_valid _)]
  exact congrArg₂ (sim x y) (Fin.ext hr.symm) (Fin.ext (back_pad _).symm)

theorem line_padded : Padded (line x y n) := by
  intro m hm hv j hj
  rw [← line_pad x y n hn r hr ⟨j, hj⟩]
  unfold line
  rw [dif_pos hm, prod_invalid x y n ⟨m, hm⟩ hn hv]
  obtain ⟨p, hp, hp', -⟩ := low_real
  obtain ⟨a, ha, ha'⟩ := sim_real x y r ⟨j, hj⟩
  rw [hp, ha]
  exact EReal.coe_lt_coe_iff.mpr (by linarith [neg_le_of_abs_le ha'])

end Line

theorem few_top (x y : Cert.Sim.Table) (n : Fin 15360) (hn : Valid n.val) : Few ⊤ (line x y n) := by
  intro p _ _ _ _ _ _ _ _ _ _ h
  obtain ⟨a, ha, -⟩ := line_real x y n hn p
  rw [ha, top_le_iff] at h
  exact EReal.coe_ne_top a h

/-- The padded position's word, renumbered, is the position's. -/
theorem renum_pad (j : Fin 15000) : Cert.Tail.renumWord (BitVec.ofNat 32 (pad j.val)) = BitVec.ofNat 32 j.val := by
  refine (Cert.Tail.renumWord_nat ⟨pad j.val, pad_lt j.isLt⟩).trans (congrArg (BitVec.ofNat 32) ?_)
  show pad j.val - 72 * (pad j.val / 3072) = j.val
  unfold pad
  omega

end Cert.Match

end
-- ==== Proof.Result.lean ====
/- The kernel's four results, entry by entry: the reference's best two of each row and of each column. -/
module

public import proofs.«01_k».proof.Proof.Prep
public import proofs.«01_k».proof.Proof.Match

@[expose] public section

set_option maxRecDepth 16384

noncomputable section

namespace Cert.Result

open Idealize.ShloMosaic Idealize.ShloMosaic.TcCoe Idealize.SL.Sem Cert.KernelIdeal Cert.KernelIdeal.Gen
open Cert.Top2 Cert.Sim Cert.Ref Cert.Region1 Cert.Match

/-- Where the padded tables hold row `r`. -/
def at_ (r : Fin 15000) : Fin 15360 := ⟨pad r.val, pad_lt r.isLt⟩

variable (m : (ℓ : Loc nD τ sig) → Buf (Elt Ideal) ℓ) (ρ : Dev nD → PrngReg) (c : Dev nD) (r : Fin 15000) (k : Fin 2)

abbrev argX : Cert.Sim.Table := m ((c : Thread nD τ).loc main_arg0)
abbrev argY : Cert.Sim.Table := m ((c : Thread nD τ).loc main_arg1)

theorem tables_x (i : S15360x256.Idx) : V1 m ρ c main_v0_0 i = Cert.Region0.tableX (argX m c) i :=
  congrFun ((W1_arr m ρ c 2).trans (Cert.Region0.table_x (V0 m ρ) c)) i

theorem tables_y (i : S15360x256.Idx) : V1 m ρ c main_v0_1 i = Cert.Region0.tableY (argY m c) i :=
  congrFun ((W1_arr m ρ c 3).trans (Cert.Region0.table_y (V0 m ρ) c)) i

theorem at_valid : Valid (at_ r).val := pad_valid r.val
theorem back_at : back (at_ r).val = r.val := back_pad r.val

/-- The state of row `r` of the search after its last step. -/
def lastX (t : Fin cfg1.N) : St := pairX (V1 m ρ) c t.val t.isLt (at_ r)
def lastY (t : Fin cfg1.N) : St := pairY (V1 m ρ) c t.val t.isLt (at_ r)

theorem value_x (t : Fin cfg1.N) (ht : t.val = 224) :
    (lastX m ρ c r t).v₁ = sims (argX m c) (argY m c) (ix2 r (place (sims (argX m c) (argY m c)) r 0))
    ∧ (lastX m ρ c r t).v₂ = sims (argX m c) (argY m c) (ix2 r (place (sims (argX m c) (argY m c)) r 1)) :=
  values _ r (line_padded (argX m c) (argY m c) (at_ r) (at_valid r) r (back_at r))
    (fun j => (sims_apply _ _ r j).trans (line_pad (argX m c) (argY m c) (at_ r) (at_valid r) r (back_at r) j))
    (last_x (V1 m ρ) c (argX m c) (argY m c) (tables_x m ρ c) (tables_y m ρ c) (at_ r) (at_valid r) (few_top _ _ _ (at_valid r)) t ht)

theorem value_y (t : Fin cfg1.N) (ht : t.val = 224) :
    (lastY m ρ c r t).v₁ = simsT (argX m c) (argY m c) (ix2 r (place (simsT (argX m c) (argY m c)) r 0))
    ∧ (lastY m ρ c r t).v₂ = simsT (argX m c) (argY m c) (ix2 r (place (simsT (argX m c) (argY m c)) r 1)) :=
  values _ r (line_padded (argY m c) (argX m c) (at_ r) (at_valid r) r (back_at r))
    (fun j => (simsT_apply _ _ r j).trans (line_pad (argY m c) (argX m c) (at_ r) (at_valid r) r (back_at r) j))
    (last_y (V1 m ρ) c (argX m c) (argY m c) (tables_x m ρ c) (tables_y m ρ c) (at_ r) (at_valid r) (few_top _ _ _ (at_valid r)) t ht)

theorem position_x (t : Fin cfg1.N) (ht : t.val = 224) (hc : Clear (sims (argX m c) (argY m c)) r k) :
    ![(lastX m ρ c r t).i₁, (lastX m ρ c r t).i₂] k
      = BitVec.ofNat 32 (pad (place (sims (argX m c) (argY m c)) r (k.castLE (by decide))).val) :=
  have hg := line_padded (argX m c) (argY m c) (at_ r) (at_valid r) r (back_at r)
  have hz (j : Fin 15000) := (sims_apply (argX m c) (argY m c) r j).trans (line_pad (argX m c) (argY m c) (at_ r) (at_valid r) r (back_at r) j)
  positions _ r hg hz k
    (last_x (V1 m ρ) c (argX m c) (argY m c) (tables_x m ρ c) (tables_y m ρ c) (at_ r) (at_valid r) (few_row _ r hg hz k hc) t ht)

theorem position_y (t : Fin cfg1.N) (ht : t.val = 224) (hc : Clear (simsT (argX m c) (argY m c)) r k) :
    ![(lastY m ρ c r t).i₁, (lastY m ρ c r t).i₂] k
      = BitVec.ofNat 32 (pad (place (simsT (argX m c) (argY m c)) r (k.castLE (by decide))).val) :=
  have hg := line_padded (argY m c) (argX m c) (at_ r) (at_valid r) r (back_at r)
  have hz (j : Fin 15000) := (simsT_apply (argX m c) (argY m c) r j).trans (line_pad (argY m c) (argX m c) (at_ r) (at_valid r) r (back_at r) j)
  positions _ r hg hz k
    (last_y (V1 m ρ) c (argX m c) (argY m c) (tables_x m ρ c) (tables_y m ρ c) (at_ r) (at_valid r) (few_row _ r hg hz k hc) t ht)

section Entries
variable (t : Fin cfg1.N)

/-- The four arrays the search leaves, read at row `r`. -/
theorem array_0 (h : (cfg1.win 2).WholeAt t) : W2 m ρ c (Proc.devRef .tc main_v1_0) (ix2 0 (at_ r)) = (lastX m ρ c r t).v₁
    ∧ W2 m ρ c (Proc.devRef .tc main_v1_0) (ix2 1 (at_ r)) = (lastX m ρ c r t).v₂ :=
  have e := (W2_arr m ρ c 2).trans (flushed_2 (V1 m ρ) c t h)
  ⟨congrFun e (ix2 0 (at_ r)), congrFun e (ix2 1 (at_ r))⟩

theorem array_1 (h : (cfg1.win 3).WholeAt t) : W2 m ρ c (Proc.devRef .tc main_v1_1) (ix2 k (at_ r))
    = ![(lastX m ρ c r t).i₁, (lastX m ρ c r t).i₂] k := by
  have e := (W2_arr m ρ c 3).trans (flushed_3 (V1 m ρ) c t h)
  fin_cases k
  · exact congrFun e (ix2 0 (at_ r))
  · exact congrFun e (ix2 1 (at_ r))

theorem array_2 (h : (cfg1.win 4).WholeAt t) : W2 m ρ c (Proc.devRef .tc main_v1_2) (ix2 0 (at_ r)) = (lastY m ρ c r t).v₁
    ∧ W2 m ρ c (Proc.devRef .tc main_v1_2) (ix2 1 (at_ r)) = (lastY m ρ c r t).v₂ :=
  have e := (W2_arr m ρ c 4).trans (flushed_4 (V1 m ρ) c t h)
  ⟨congrFun e (ix2 0 (at_ r)), congrFun e (ix2 1 (at_ r))⟩

theorem array_3 (h : (cfg1.win 5).WholeAt t) : W2 m ρ c (Proc.devRef .tc main_v1_3) (ix2 k (at_ r))
    = ![(lastY m ρ c r t).i₁, (lastY m ρ c r t).i₂] k := by
  have e := (W2_arr m ρ c 5).trans (flushed_5 (V1 m ρ) c t h)
  fin_cases k
  · exact congrFun e (ix2 0 (at_ r))
  · exact congrFun e (ix2 1 (at_ r))

end Entries

theorem rows_values {z : FVec Ideal Square .f32} {T : Vec Ideal S2x15360 .f32} {h : Square.Slices (fun _ => 0) ⟨2, ![15000, 2]⟩}
    (h₀ : T (ix2 0 (at_ r)) = z (ix2 r (place z r 0))) (h₁ : T (ix2 1 (at_ r)) = z (ix2 r (place z r 1))) :
    Cert.Tail.rows T (ix2 r k) = (Host.topK ⟨2, ![15000, 2]⟩ 1 (FloatOps.cmpfTotal .gt) z h).1 (ix2 r k) := by
  rw [Cert.Tail.rows_apply, topK_value (by decide)]
  fin_cases k
  · exact h₀
  · exact h₁

theorem rows_positions {z : FVec Ideal Square .f32} {T : Vec Ideal S2x15360 .i32} {h : Square.Slices (fun _ => 0) ⟨2, ![15000, 2]⟩}
    (hT : T (ix2 k (at_ r)) = BitVec.ofNat 32 (pad (place z r (k.castLE (by decide))).val)) :
    Cert.Tail.renum (Cert.Tail.rows T) (ix2 r k) = (Host.topK ⟨2, ![15000, 2]⟩ 1 (FloatOps.cmpfTotal .gt) z h).2 (ix2 r k) := by
  rw [Cert.Tail.renum_apply, Cert.Tail.rows_apply, topK_index (by decide), ← renum_pad]
  exact congrArg Cert.Tail.renumWord hT

variable (h : Square.Slices (fun _ => 0) ⟨2, ![15000, 2]⟩)

theorem result_0 : W7 m ρ c (Proc.devRef .tc main_v5) (ix2 r k)
    = (Host.topK ⟨2, ![15000, 2]⟩ 1 (FloatOps.cmpfTotal .gt) (sims (argX m c) (argY m c)) h).1 (ix2 r k) := by
  obtain ⟨t, ht, hf, -⟩ := flushes
  have ha := array_0 m ρ c r t hf
  have hv := value_x m ρ c r t ht
  exact (congrFun (Cert.Tail.result_0 m ρ c) _).trans (rows_values r k (ha.1.trans hv.1) (ha.2.trans hv.2))

theorem result_1 (hc : Clear (sims (argX m c) (argY m c)) r k) : W7 m ρ c (Proc.devRef .tc main_v13) (ix2 r k)
    = (Host.topK ⟨2, ![15000, 2]⟩ 1 (FloatOps.cmpfTotal .gt) (sims (argX m c) (argY m c)) h).2 (ix2 r k) := by
  obtain ⟨t, ht, -, hf, -⟩ := flushes
  have ha := array_1 m ρ c r k t hf
  have hv := position_x m ρ c r k t ht hc
  exact (congrFun (Cert.Tail.result_1 m ρ c) _).trans (rows_positions r k (ha.trans hv))

theorem result_2 : W7 m ρ c (Proc.devRef .tc main_v17) (ix2 r k)
    = (Host.topK ⟨2, ![15000, 2]⟩ 1 (FloatOps.cmpfTotal .gt) (simsT (argX m c) (argY m c)) h).1 (ix2 r k) := by
  obtain ⟨t, ht, -, -, hf, -⟩ := flushes
  have ha := array_2 m ρ c r t hf
  have hv := value_y m ρ c r t ht
  exact (congrFun (Cert.Tail.result_2 m ρ c) _).trans (rows_values r k (ha.1.trans hv.1) (ha.2.trans hv.2))

theorem result_3 (hc : Clear (simsT (argX m c) (argY m c)) r k) : W7 m ρ c (Proc.devRef .tc main_v25) (ix2 r k)
    = (Host.topK ⟨2, ![15000, 2]⟩ 1 (FloatOps.cmpfTotal .gt) (simsT (argX m c) (argY m c)) h).2 (ix2 r k) := by
  obtain ⟨t, ht, -, -, -, hf⟩ := flushes
  have ha := array_3 m ρ c r k t hf
  have hv := position_y m ρ c r k t ht hc
  exact (congrFun (Cert.Tail.result_3 m ρ c) _).trans (rows_positions r k (ha.trans hv))

end Cert.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.IdealFrame
public import proofs.«01_k».proof.Proof.Gen.ReferenceIdeal
public import proofs.«01_k».proof.Proof.Gen.ReferenceIdeal.Run
public import proofs.«01_k».proof.Proof.Gen.On_clear_rows
public import proofs.«01_k».proof.Proof.Result
public import Idealize.ShloMosaic.Adequacy
public import Idealize.ShloMosaic.Init

@[expose] public section

noncomputable section

namespace Cert.Proof

open Idealize.ShloMosaic Idealize.ShloMosaic.TcCoe Idealize.SL.Sem

/-- `Cert.quiescent_ReferenceIdeal`: the host program's run read at the arguments; it declares no semaphore. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

section Values
open Cert.KernelIdeal Cert.KernelIdeal.Gen Cert.Ref Cert.Result

/-- The kernel's run, read at its results and arguments. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = W7 m ρ c (Proc.devRef .tc main_v5)
      ∧ r.2.mem ((c.tc : Thread nD τ).loc main_v13) = W7 m ρ c (Proc.devRef .tc main_v13)
      ∧ r.2.mem ((c.tc : Thread nD τ).loc main_v17) = W7 m ρ c (Proc.devRef .tc main_v17)
      ∧ r.2.mem ((c.tc : Thread nD τ).loc main_v25) = W7 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h.1 c _ (mem_uc main_v5 (by decide)), h.1 c _ (mem_uc main_v13 (by decide)),
      h.1 c _ (mem_uc main_v17 (by decide)), h.1 c _ (mem_uc main_v25 (by decide)),
      (h.1 c _ (mem_uc main_arg0 (by decide))).trans (W7_main_arg0 m ρ c),
      (h.1 c _ (mem_uc main_arg1 (by decide))).trans (W7_main_arg1 m ρ c)⟩) (ends m ρ)

/-- A table of two columns is read at a row and a column. -/
theorem by_rows {P : (⟨2, ![15000, 2]⟩ : Shape).Idx → Prop} (h : ∀ (r : Fin 15000) (k : Fin 2), P (ix2 r k)) (i) : P i := by
  idx_vars i
  exact h i0 i1

/-- The reference's run, its results under the names of the similarities. -/
theorem reference_run (m : (ℓ : Loc Cert.ReferenceIdeal.nD Cert.ReferenceIdeal.τ Cert.ReferenceIdeal.sig) → Buf (Elt Ideal) ℓ)
    (ρ : Dev Cert.ReferenceIdeal.nD → PrngReg) (x y : Dev nD → Cert.Sim.Table)
    (hx : ∀ c : Dev nD, m ((c.tc : Thread Cert.ReferenceIdeal.nD Cert.ReferenceIdeal.τ).loc Cert.ReferenceIdeal.main_arg0) = x c)
    (hy : ∀ c : Dev nD, m ((c.tc : Thread Cert.ReferenceIdeal.nD Cert.ReferenceIdeal.τ).loc Cert.ReferenceIdeal.main_arg1) = y c) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
      r.2.mem ((c.tc : Thread Cert.ReferenceIdeal.nD Cert.ReferenceIdeal.τ).loc Cert.ReferenceIdeal.main_values)
        = (Host.topK ⟨2, ![15000, 2]⟩ 1 (FloatOps.cmpfTotal .gt) (sims (x c) (y c)) Cert.ReferenceIdeal.Gen.sliceFits_S15000x15000_S15000x2).1
      ∧ r.2.mem ((c.tc : Thread Cert.ReferenceIdeal.nD Cert.ReferenceIdeal.τ).loc Cert.ReferenceIdeal.main_indices)
        = (Host.topK ⟨2, ![15000, 2]⟩ 1 (FloatOps.cmpfTotal .gt) (sims (x c) (y c)) Cert.ReferenceIdeal.Gen.sliceFits_S15000x15000_S15000x2).2
      ∧ r.2.mem ((c.tc : Thread Cert.ReferenceIdeal.nD Cert.ReferenceIdeal.τ).loc Cert.ReferenceIdeal.main_values_1)
        = (Host.topK ⟨2, ![15000, 2]⟩ 1 (FloatOps.cmpfTotal .gt) (simsT (x c) (y c)) Cert.ReferenceIdeal.Gen.sliceFits_S15000x15000_S15000x2).1
      ∧ r.2.mem ((c.tc : Thread Cert.ReferenceIdeal.nD Cert.ReferenceIdeal.τ).loc Cert.ReferenceIdeal.main_indices_2)
        = (Host.topK ⟨2, ![15000, 2]⟩ 1 (FloatOps.cmpfTotal .gt) (simsT (x c) (y c)) Cert.ReferenceIdeal.Gen.sliceFits_S15000x15000_S15000x2).2
      ∧ r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)) :=
  (θ_run _ _ _).mono (fun _ h c => by
    obtain ⟨h₀, h₁, h₂, h₃, ha, hb⟩ := h c
    have ex := hx c
    have ey := hy c
    refine ⟨h₀.trans ?_, h₁.trans ?_, h₂.trans ?_, h₃.trans ?_, ha, hb⟩
    all_goals rw [← ex, ← ey]; rfl) (Cert.ReferenceIdeal.Value.run (F := Ideal) m ρ)

theorem algebraic : Cert.algebraic_KernelIdeal_ReferenceIdeal_on_clear_rows := by
  intro m ρ m' ρ' _ hm
  refine ⟨fun c => W7 m ρ c (Proc.devRef .tc main_v5), fun c => W7 m ρ c (Proc.devRef .tc main_v13),
    fun c => W7 m ρ c (Proc.devRef .tc main_v17), fun c => W7 m ρ c (Proc.devRef .tc main_v25), ?_, ?_⟩
  · refine (θ_run _ _ _).mono (fun _ h c => ?_) (kernel_run m ρ)
    obtain ⟨h₀, h₁, h₂, h₃, ha, hb⟩ := h c
    exact ⟨fun i _ => congrFun h₀ i, fun i _ => congrFun h₁ i, fun i _ => congrFun h₂ i, fun i _ => congrFun h₃ i, ha, hb⟩
  · refine (θ_run _ _ _).mono (fun _ h c => ?_) (reference_run m' ρ' (argX m) (argY m) (fun c => (hm c).1) (fun c => (hm c).2))
    obtain ⟨h₀, h₁, h₂, h₃, ha, hb⟩ := h c
    refine ⟨by_rows fun r k _ => ?_, by_rows fun r k hc => ?_, by_rows fun r k _ => ?_, by_rows fun r k hc => ?_, ha, hb⟩
    · exact (congrFun h₀ _).trans (result_0 m ρ c r k _).symm
    · exact (congrFun h₁ _).trans (result_1 m ρ c r k _ (clear_of_test _ _ r k ((congrFun (mask_0 _ _) _).symm.trans hc))).symm
    · exact (congrFun h₂ _).trans (result_2 m ρ c r k _).symm
    · exact (congrFun h₃ _).trans (result_3 m ρ c r k _ (clear_of_test _ _ r k ((congrFun (mask_1 _ _) _).symm.trans hc))).symm

end Values

theorem claim : Cert.Claim := ⟨Cert.Kernel.Gen.facts, Cert.KernelIdeal.Gen.facts, Cert.ReferenceIdeal.Gen.facts, Cert.On_clear_rows.Gen.facts,
  fun m ρ _ => Cert.Kernel.Gen.frame m ρ, fun m ρ _ => Cert.KernelIdeal.Gen.frame m ρ, frame_reference, trivial, algebraic⟩

end Cert.Proof

end
